-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_keys [hPre_finite_keys : Cert.Pre_finite_keys.Facts] (m : (ℓ : Loc Cert.KernelIdeal.nD Cert.KernelIdeal.τ Cert.KernelIdeal.sig) → Buf (Elt Ideal) ℓ) : Prop :=
  ∀ c : Dev Cert.KernelIdeal.nD,
    (Cert.Pre_finite_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 = (fun _ => 1#1)
    ∧ (Cert.Pre_finite_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 = (fun _ => 1#1)
    ∧ (Cert.Pre_finite_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.1 = (fun _ => 1#1)
    ∧ (Cert.Pre_finite_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.1 = (fun _ => 1#1)
    ∧ (Cert.Pre_finite_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_keys [hPre_finite_keys : Cert.Pre_finite_keys.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).1 = (fun _ => 1#1)
    ∧ (Cert.Pre_finite_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.1 = (fun _ => 1#1)
    ∧ (Cert.Pre_finite_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.1 = (fun _ => 1#1)
    ∧ (Cert.Pre_finite_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.1 = (fun _ => 1#1)
    ∧ (Cert.Pre_finite_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite_keys [hKernelIdeal : Cert.KernelIdeal.Facts] [hPre_finite_keys : Cert.Pre_finite_keys.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_keys m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite_keys [hReferenceIdeal : Cert.ReferenceIdeal.Facts] [hPre_finite_keys : Cert.Pre_finite_keys.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_keys m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_finite_keys [hKernelIdeal : Cert.KernelIdeal.Facts] [hReferenceIdeal : Cert.ReferenceIdeal.Facts] [hPre_finite_keys : Cert.Pre_finite_keys.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_keys m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v146) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_keys : Cert.Pre_finite_keys.Facts),
    quiescent_Kernel (hKernel := hKernel)
    ∧ quiescent_KernelIdeal (hKernelIdeal := hKernelIdeal)
    ∧ quiescent_KernelIdeal_pre_finite_keys (hKernelIdeal := hKernelIdeal) (hPre_finite_keys := hPre_finite_keys)
    ∧ quiescent_ReferenceIdeal (hReferenceIdeal := hReferenceIdeal)
    ∧ quiescent_ReferenceIdeal_pre_finite_keys (hReferenceIdeal := hReferenceIdeal) (hPre_finite_keys := hPre_finite_keys)
    ∧ preserves_Kernel_KernelIdeal
    ∧ algebraic_KernelIdeal_ReferenceIdeal_pre_finite_keys (hKernelIdeal := hKernelIdeal) (hReferenceIdeal := hReferenceIdeal) (hPre_finite_keys := hPre_finite_keys)
-- ==== Pre_finite_keys.lean ====
abbrev S64x4x4096 : Shape := ⟨3, ![64, 4, 4096]⟩
abbrev S64x4x8x128 : Shape := ⟨4, ![64, 4, 8, 128]⟩
abbrev S64x4096x8x64 : Shape := ⟨4, ![64, 4096, 8, 64]⟩
abbrev S8x128x16 : Shape := ⟨3, ![8, 128, 16]⟩
abbrev S64x4096x8 : Shape := ⟨3, ![64, 4096, 8]⟩
abbrev S64 : Shape := ⟨1, ![64]⟩
abbrev S64x4096x8x4 : Shape := ⟨4, ![64, 4096, 8, 4]⟩
abbrev S_ : Shape := ⟨0, ![]⟩

class Facts : Prop where
  bcast_S_S64x4x4096 : S_.BroadcastsInDim S64x4x4096 (![] : Fin 0 → Fin S64x4x4096.rank)
  bcast_S_S64x4x8x128 : S_.BroadcastsInDim S64x4x8x128 (![] : Fin 0 → Fin S64x4x8x128.rank)
  bcast_S_S8x128x16 : S_.BroadcastsInDim S8x128x16 (![] : Fin 0 → Fin S8x128x16.rank)
  bcast_S_S64x4096x8x4 : S_.BroadcastsInDim S64x4096x8x4 (![] : Fin 0 → Fin S64x4096x8x4.rank)

variable [Facts]

def fn_part1 {F : FTy → Type} [FloatOps F] (main_v4 : IVec S64x4x4096 1) (main_v7 : IVec S64x4x8x128 1) (main_v10 : IVec S8x128x16 1) (main_v13 : IVec S64x4096x8x4 1) (main_v15 : IVec S64x4096x8x4 1) (main_v17 : IVec S64x4096x8x4 1) : IVec S64x4x4096 1 × IVec S64x4x8x128 1 × IVec S8x128x16 1 × IVec S64x4096x8x4 1 × IVec S64x4096x8x4 1 :=
  let main_v18 : IVec S64x4096x8x4 1 := andi main_v15 main_v17
  (main_v4, main_v7, main_v10, main_v13, main_v18)

def fn {F : FTy → Type} [FloatOps F] (main_arg0 : FVec F S64x4x4096 .bf16) (main_arg1 : FVec F S64x4x8x128 .bf16) (main_arg2 : FVec F S64x4x8x128 .bf16) (main_arg3 : IVec S64x4096x8x64 8) (main_arg4 : IVec S64x4096x8x64 8) (main_arg5 : IVec S8x128x16 16) (main_arg6 : IVec S8x128x16 16) (main_arg7 : FVec F S64x4096x8 .f32) (main_arg8 : IVec S64 32) (main_arg9 : IVec S64x4096x8x4 32) (main_arg10 : IVec S64x4096x8x4 16) : IVec S64x4x4096 1 × IVec S64x4x8x128 1 × IVec S8x128x16 1 × IVec S64x4096x8x4 1 × IVec S64x4096x8x4 1 :=
  let main_v0 : FVec F S8x128x16 .bf16 := bitcastToFloat .bf16 main_arg5
  let main_v1 : FVec F S64x4096x8x4 .bf16 := bitcastToFloat .bf16 main_arg10
  let main_v2 : FVec F S64x4x4096 .bf16 := Host.absf main_arg0
  let main_cst : FVec F S_ .bf16 := constant S_ .bf16 0x7F80#16
  let main_v3 : FVec F S64x4x4096 .bf16 := broadcastInDim S64x4x4096 ![] bcast_S_S64x4x4096 main_cst
  let main_v4 : IVec S64x4x4096 1 := cmpf .olt main_v2 main_v3
  let main_v5 : FVec F S64x4x8x128 .bf16 := Host.absf main_arg1
  let main_cst_0 : FVec F S_ .bf16 := constant S_ .bf16 0x7F80#16
  let main_v6 : FVec F S64x4x8x128 .bf16 := broadcastInDim S64x4x8x128 ![] bcast_S_S64x4x8x128 main_cst_0
  let main_v7 : IVec S64x4x8x128 1 := cmpf .olt main_v5 main_v6
  let main_v8 : FVec F S8x128x16 .bf16 := Host.absf main_v0
  let main_cst_1 : FVec F S_ .bf16 := constant S_ .bf16 0x7F80#16
  let main_v9 : FVec F S8x128x16 .bf16 := broadcastInDim S8x128x16 ![] bcast_S_S8x128x16 main_cst_1
  let main_v10 : IVec S8x128x16 1 := cmpf .olt main_v8 main_v9
  let main_v11 : FVec F S64x4096x8x4 .bf16 := Host.absf main_v1
  let main_cst_2 : FVec F S_ .bf16 := constant S_ .bf16 0x7F80#16
  let main_v12 : FVec F S64x4096x8x4 .bf16 := broadcastInDim S64x4096x8x4 ![] bcast_S_S64x4096x8x4 main_cst_2
  let main_v13 : IVec S64x4096x8x4 1 := cmpf .olt main_v11 main_v12
  let main_c : IVec S_ 32 := constantI S_ 32 0#32
  let main_v14 : IVec S64x4096x8x4 32 := broadcastInDim S64x4096x8x4 ![] bcast_S_S64x4096x8x4 main_c
  let main_v15 : IVec S64x4096x8x4 1 := cmpi .sge main_arg9 main_v14
  let main_c_3 : IVec S_ 32 := constantI S_ 32 65536#32
  let main_v16 : IVec S64x4096x8x4 32 := broadcastInDim S64x4096x8x4 ![] bcast_S_S64x4096x8x4 main_c_3
  let main_v17 : IVec S64x4096x8x4 1 := cmpi .slt main_arg9 main_v16
  fn_part1 (F := F) main_v4 main_v7 main_v10 main_v13 main_v15 main_v17
-- ==== Kernel.lean ====
abbrev S64x4x4096 : Shape := ⟨3, ![64, 4, 4096]⟩
abbrev S64x4x8x128 : Shape := ⟨4, ![64, 4, 8, 128]⟩
abbrev S64x4096x8x64 : Shape := ⟨4, ![64, 4096, 8, 64]⟩
abbrev S8x128x16 : Shape := ⟨3, ![8, 128, 16]⟩
abbrev S64x4096x8 : Shape := ⟨3, ![64, 4096, 8]⟩
abbrev S64 : Shape := ⟨1, ![64]⟩
abbrev S64x4096x8x4 : Shape := ⟨4, ![64, 4096, 8, 4]⟩
abbrev S64x4x32x128 : Shape := ⟨4, ![64, 4, 32, 128]⟩
abbrev S64x32x4x128 : Shape := ⟨4, ![64, 32, 4, 128]⟩
abbrev S64x128x128 : Shape := ⟨3, ![64, 128, 128]⟩
abbrev S1024 : Shape := ⟨1, ![1024]⟩
abbrev S_ : Shape := ⟨0, ![]⟩
abbrev S128 : Shape := ⟨1, ![128]⟩
abbrev S128x1 : Shape := ⟨2, ![128, 1]⟩
abbrev S1x1024 : Shape := ⟨2, ![1, 1024]⟩
abbrev S128x1024 : Shape := ⟨2, ![128, 1024]⟩
abbrev S64x4x8x16x8 : Shape := ⟨5, ![64, 4, 8, 16, 8]⟩
abbrev S64x4x8x8x16 : Shape := ⟨5, ![64, 4, 8, 8, 16]⟩
abbrev S64x4x1024 : Shape := ⟨3, ![64, 4, 1024]⟩
abbrev S64x16x1024 : Shape := ⟨3, ![64, 16, 1024]⟩
abbrev S64x8x64x4096 : Shape := ⟨4, ![64, 8, 64, 4096]⟩
abbrev S64x8x4096 : Shape := ⟨3, ![64, 8, 4096]⟩
abbrev S64x8x4x4096 : Shape := ⟨4, ![64, 8, 4, 4096]⟩
abbrev S8x16x8x16 : Shape := ⟨4, ![8, 16, 8, 16]⟩
abbrev S8x16x128 : Shape := ⟨3, ![8, 16, 128]⟩
abbrev S1x128x128 : Shape := ⟨3, ![1, 128, 128]⟩
abbrev S1x16x1024 : Shape := ⟨3, ![1, 16, 1024]⟩
abbrev S1x8x64x512 : Shape := ⟨4, ![1, 8, 64, 512]⟩
abbrev S1 : Shape := ⟨1, ![1]⟩
abbrev S1x8x512 : Shape := ⟨3, ![1, 8, 512]⟩
abbrev S1x8x4x512 : Shape := ⟨4, ![1, 8, 4, 512]⟩
abbrev S512x1024 : Shape := ⟨2, ![512, 1024]⟩
abbrev S16x1024 : Shape := ⟨2, ![16, 1024]⟩
abbrev S128x128 : Shape := ⟨2, ![128, 128]⟩
abbrev S128x16 : Shape := ⟨2, ![128, 16]⟩
abbrev S8x64x512 : Shape := ⟨3, ![8, 64, 512]⟩
abbrev S512x512 : Shape := ⟨2, ![512, 512]⟩
abbrev S128x512 : Shape := ⟨2, ![128, 512]⟩
abbrev S16x128 : Shape := ⟨2, ![16, 128]⟩
abbrev S1x8x1x128 : Shape := ⟨4, ![1, 8, 1, 128]⟩
abbrev S8x128 : Shape := ⟨2, ![8, 128]⟩
abbrev S8x1x128 : Shape := ⟨3, ![8, 1, 128]⟩
abbrev S1x16x128 : Shape := ⟨3, ![1, 16, 128]⟩
abbrev S16x128x1 : Shape := ⟨3, ![16, 128, 1]⟩
abbrev S1x8x128 : Shape := ⟨3, ![1, 8, 128]⟩
abbrev S64x4x4x8x8x16 : Shape := ⟨6, ![64, 4, 4, 8, 8, 16]⟩
abbrev S64x4x8x4x16x8 : Shape := ⟨6, ![64, 4, 8, 4, 16, 8]⟩

abbrev nBuf : Space → Nat
  | .hbm => 92
  | .vmem => 27
  | .smem => 1
  | _ => 0

abbrev bufTy : (tb : Table) → Fin (tcTables nBuf tb) → BufTy
  | .hbm, ⟨0, _⟩ => ⟨S64x4x4096, .bf16⟩
  | .hbm, ⟨1, _⟩ => ⟨S64x4x8x128, .bf16⟩
  | .hbm, ⟨2, _⟩ => ⟨S64x4x8x128, .bf16⟩
  | .hbm, ⟨3, _⟩ => ⟨S64x4096x8x64, .i8⟩
  | .hbm, ⟨4, _⟩ => ⟨S64x4096x8x64, .i8⟩
  | .hbm, ⟨5, _⟩ => ⟨S8x128x16, .i16⟩
  | .hbm, ⟨6, _⟩ => ⟨S8x128x16, .i16⟩
  | .hbm, ⟨7, _⟩ => ⟨S64x4096x8, .f32⟩
  | .hbm, ⟨8, _⟩ => ⟨S64x4096x8x4, .i32⟩
  | .hbm, ⟨9, _⟩ => ⟨S64x4096x8x4, .i16⟩
  | .hbm, ⟨10, _⟩ => ⟨S64x4x32x128, .bf16⟩
  | .hbm, ⟨11, _⟩ => ⟨S64x32x4x128, .bf16⟩
  | .hbm, ⟨12, _⟩ => ⟨S64x128x128, .bf16⟩
  | .hbm, ⟨13, _⟩ => ⟨S1024, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i1⟩
  | .hbm, ⟨18, _⟩ => ⟨S_, .i32⟩
  | .hbm, ⟨19, _⟩ => ⟨S_, .i32⟩
  | .hbm, ⟨20, _⟩ => ⟨S1024, .i32⟩
  | .hbm, ⟨21, _⟩ => ⟨S1024, .i32⟩
  | .hbm, ⟨22, _⟩ => ⟨S_, .i32⟩
  | .hbm, ⟨23, _⟩ => ⟨S1024, .i32⟩
  | .hbm, ⟨24, _⟩ => ⟨S1024, .i1⟩
  | .hbm, ⟨25, _⟩ => ⟨S_, .i32⟩
  | .hbm, ⟨26, _⟩ => ⟨S1024, .i32⟩
  | .hbm, ⟨27, _⟩ => ⟨S1024, .i1⟩
  | .hbm, ⟨28, _⟩ => ⟨S_, .i32⟩
  | .hbm, ⟨29, _⟩ => ⟨S_, .i1⟩
  | .hbm, ⟨30, _⟩ => ⟨S1024, .i1⟩
  | .hbm, ⟨31, _⟩ => ⟨S1024, .i1⟩
  | .hbm, ⟨32, _⟩ => ⟨S1024, .i1⟩
  | .hbm, ⟨33, _⟩ => ⟨S1024, .i32⟩
  | .hbm, ⟨34, _⟩ => ⟨S1024, .i32⟩
  | .hbm, ⟨35, _⟩ => ⟨S1024, .i32⟩
  | .hbm, ⟨36, _⟩ => ⟨S_, .i32⟩
  | .hbm, ⟨37, _⟩ => ⟨S1024, .i32⟩
  | .hbm, ⟨38, _⟩ => ⟨S1024, .i32⟩
  | .hbm, ⟨39, _⟩ => ⟨S_, .i32⟩
  | .hbm, ⟨40, _⟩ => ⟨S_, .i32⟩
  | .hbm, ⟨41, _⟩ => ⟨S1024, .i32⟩
  | .hbm, ⟨42, _⟩ => ⟨S1024, .i32⟩
  | .hbm, ⟨43, _⟩ => ⟨S1024, .i32⟩
  | .hbm, ⟨44, _⟩ => ⟨S_, .i32⟩
  | .hbm, ⟨45, _⟩ => ⟨S1024, .i32⟩
  | .hbm, ⟨46, _⟩ => ⟨S1024, .i1⟩
  | .hbm, ⟨47, _⟩ => ⟨S1024, .i32⟩
  | .hbm, ⟨48, _⟩ => ⟨S1024, .i32⟩
  | .hbm, ⟨49, _⟩ => ⟨S_, .i32⟩
  | .hbm, ⟨50, _⟩ => ⟨S1024, .i32⟩
  | .hbm, ⟨51, _⟩ => ⟨S1024, .i1⟩
  | .hbm, ⟨52, _⟩ => ⟨S1024, .i1⟩
  | .hbm, ⟨53, _⟩ => ⟨S_, .i32⟩
  | .hbm, ⟨54, _⟩ => ⟨S1024, .i32⟩
  | .hbm, ⟨55, _⟩ => ⟨S1024, .i32⟩
  | .hbm, ⟨56, _⟩ => ⟨S1024, .i32⟩
  | .hbm, ⟨57, _⟩ => ⟨S1024, .i32⟩
  | .hbm, ⟨58, _⟩ => ⟨S128, .i32⟩
  | .hbm, ⟨59, _⟩ => ⟨S128x1, .i32⟩
  | .hbm, ⟨60, _⟩ => ⟨S1x1024, .i32⟩
  | .hbm, ⟨61, _⟩ => ⟨S128x1024, .i32⟩
  | .hbm, ⟨62, _⟩ => ⟨S128x1024, .i32⟩
  | .hbm, ⟨63, _⟩ => ⟨S128x1024, .i1⟩
  | .hbm, ⟨64, _⟩ => ⟨S128x1024, .bf16⟩
  | .hbm, ⟨65, _⟩ => ⟨S64x4x8x16x8, .bf16⟩
  | .hbm, ⟨66, _⟩ => ⟨S64x4x8x8x16, .bf16⟩
  | .hbm, ⟨67, _⟩ => ⟨S64x4x1024, .bf16⟩
  | .hbm, ⟨68, _⟩ => ⟨S_, .i32⟩
  | .hbm, ⟨69, _⟩ => ⟨S_, .bf16⟩
  | .hbm, ⟨70, _⟩ => ⟨S64x16x1024, .bf16⟩
  | .hbm, ⟨71, _⟩ => ⟨S64x4x8x16x8, .bf16⟩
  | .hbm, ⟨72, _⟩ => ⟨S64x4x8x8x16, .bf16⟩
  | .hbm, ⟨73, _⟩ => ⟨S64x4x1024, .bf16⟩
  | .hbm, ⟨74, _⟩ => ⟨S_, .i32⟩
  | .hbm, ⟨75, _⟩ => ⟨S_, .bf16⟩
  | .hbm, ⟨76, _⟩ => ⟨S64x16x1024, .bf16⟩
  | .hbm, ⟨77, _⟩ => ⟨S64x8x64x4096, .i8⟩
  | .hbm, ⟨78, _⟩ => ⟨S64x8x64x4096, .i8⟩
  | .hbm, ⟨79, _⟩ => ⟨S64x8x4096, .f32⟩
  | .hbm, ⟨80, _⟩ => ⟨S64x8x4x4096, .i32⟩
  | .hbm, ⟨81, _⟩ => ⟨S64x8x4x4096, .i16⟩
  | .hbm, ⟨82, _⟩ => ⟨S8x16x8x16, .i16⟩
  | .hbm, ⟨83, _⟩ => ⟨S8x16x8x16, .i16⟩
  | .hbm, ⟨84, _⟩ => ⟨S8x16x128, .i16⟩
  | .hbm, ⟨85, _⟩ => ⟨S8x16x8x16, .i16⟩
  | .hbm, ⟨86, _⟩ => ⟨S8x16x8x16, .i16⟩
  | .hbm, ⟨87, _⟩ => ⟨S8x16x128, .i16⟩
  | .hbm, ⟨88, _⟩ => ⟨S64x16x1024, .bf16⟩
  | .hbm, ⟨89, _⟩ => ⟨S64x4x4x8x8x16, .bf16⟩
  | .hbm, ⟨90, _⟩ => ⟨S64x4x8x4x16x8, .bf16⟩
  | .hbm, ⟨91, _⟩ => ⟨S64x4x4096, .bf16⟩
  | .local _ .vmem, ⟨0, _⟩ => ⟨S1x128x128, .bf16⟩
  | .local _ .vmem, ⟨1, _⟩ => ⟨S1x128x128, .bf16⟩
  | .local _ .vmem, ⟨2, _⟩ => ⟨S1x16x1024, .bf16⟩
  | .local _ .vmem, ⟨3, _⟩ => ⟨S1x16x1024, .bf16⟩
  | .local _ .vmem, ⟨4, _⟩ => ⟨S1x16x1024, .bf16⟩
  | .local _ .vmem, ⟨5, _⟩ => ⟨S1x16x1024, .bf16⟩
  | .local _ .vmem, ⟨6, _⟩ => ⟨S1x8x64x512, .i8⟩
  | .local _ .vmem, ⟨7, _⟩ => ⟨S1x8x64x512, .i8⟩
  | .local _ .vmem, ⟨8, _⟩ => ⟨S1x8x64x512, .i8⟩
  | .local _ .vmem, ⟨9, _⟩ => ⟨S1x8x64x512, .i8⟩
  | .local _ .vmem, ⟨10, _⟩ => ⟨S1x8x512, .f32⟩
  | .local _ .vmem, ⟨11, _⟩ => ⟨S1x8x512, .f32⟩
  | .local _ .vmem, ⟨12, _⟩ => ⟨S1x8x4x512, .i32⟩
  | .local _ .vmem, ⟨13, _⟩ => ⟨S1x8x4x512, .i32⟩
  | .local _ .vmem, ⟨14, _⟩ => ⟨S1x8x4x512, .i16⟩
  | .local _ .vmem, ⟨15, _⟩ => ⟨S1x8x4x512, .i16⟩
  | .local _ .vmem, ⟨16, _⟩ => ⟨S8x16x128, .i16⟩
  | .local _ .vmem, ⟨17, _⟩ => ⟨S8x16x128, .i16⟩
  | .local _ .vmem, ⟨18, _⟩ => ⟨S128x1024, .bf16⟩
  | .local _ .vmem, ⟨19, _⟩ => ⟨S1x16x1024, .bf16⟩
  | .local _ .vmem, ⟨20, _⟩ => ⟨S1x16x1024, .bf16⟩
  | .local _ .vmem, ⟨21, _⟩ => ⟨S128x1024, .bf16⟩
  | .local _ .vmem, ⟨22, _⟩ => ⟨S512x1024, .bf16⟩
  | .local _ .vmem, ⟨23, _⟩ => ⟨S512x1024, .bf16⟩
  | .local _ .vmem, ⟨24, _⟩ => ⟨S16x1024, .f32⟩
  | .local _ .vmem, ⟨25, _⟩ => ⟨S128x128, .f32⟩
  | .local _ .vmem, ⟨26, _⟩ => ⟨S128x128, .f32⟩
  | .local _ .smem, ⟨0, _⟩ => ⟨S64, .i32⟩
  | _, _ => ⟨S64x4x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg9 : Ref sig .tc := ⟨.hbm, 8, rfl⟩
abbrev main_arg10 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_call0_v0 : Ref sig .tc := ⟨.hbm, 15, rfl⟩
abbrev main_call0_c : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_c_1 : Ref sig .tc := ⟨.hbm, 22, rfl⟩
abbrev main_call0_v5 : Ref sig .tc := ⟨.hbm, 23, rfl⟩
abbrev main_call0_v6 : Ref sig .tc := ⟨.hbm, 24, rfl⟩
abbrev main_call0_c_2 : Ref sig .tc := ⟨.hbm, 25, rfl⟩
abbrev main_call0_v7 : Ref sig .tc := ⟨.hbm, 26, rfl⟩
abbrev main_call0_v8 : Ref sig .tc := ⟨.hbm, 27, rfl⟩
abbrev main_call0_c_3 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_v4 : Ref sig .tc := ⟨.hbm, 35, rfl⟩
abbrev main_c_0 : Ref sig .tc := ⟨.hbm, 36, rfl⟩
abbrev main_v5 : Ref sig .tc := ⟨.hbm, 37, rfl⟩
abbrev main_v6 : Ref sig .tc := ⟨.hbm, 38, rfl⟩
abbrev main_c_1 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_c : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_c_0 : Ref sig .tc := ⟨.hbm, 53, rfl⟩
abbrev main_call1_v12 : Ref sig .tc := ⟨.hbm, 54, rfl⟩
abbrev main_call1_v13 : Ref sig .tc := ⟨.hbm, 55, rfl⟩
abbrev main_v7 : Ref sig .tc := ⟨.hbm, 56, rfl⟩
abbrev main_v8 : Ref sig .tc := ⟨.hbm, 57, rfl⟩
abbrev main_v9 : Ref sig .tc := ⟨.hbm, 58, rfl⟩
abbrev main_v10 : Ref sig .tc := ⟨.hbm, 59, rfl⟩
abbrev main_v11 : Ref sig .tc := ⟨.hbm, 60, rfl⟩
abbrev main_v12 : Ref sig .tc := ⟨.hbm, 61, rfl⟩
abbrev main_v13 : Ref sig .tc := ⟨.hbm, 62, rfl⟩
abbrev main_v14 : Ref sig .tc := ⟨.hbm, 63, rfl⟩
abbrev main_v15 : Ref sig .tc := ⟨.hbm, 64, rfl⟩
abbrev main_v16 : Ref sig .tc := ⟨.hbm, 65, rfl⟩
abbrev main_v17 : Ref sig .tc := ⟨.hbm, 66, rfl⟩
abbrev main_v18 : Ref sig .tc := ⟨.hbm, 67, rfl⟩
abbrev main_c_2 : Ref sig .tc := ⟨.hbm, 68, rfl⟩
abbrev main_call2_v0 : Ref sig .tc := ⟨.hbm, 69, rfl⟩
abbrev main_v19 : Ref sig .tc := ⟨.hbm, 70, rfl⟩
abbrev main_v20 : Ref sig .tc := ⟨.hbm, 71, rfl⟩
abbrev main_v21 : Ref sig .tc := ⟨.hbm, 72, rfl⟩
abbrev main_v22 : Ref sig .tc := ⟨.hbm, 73, rfl⟩
abbrev main_c_3 : Ref sig .tc := ⟨.hbm, 74, rfl⟩
abbrev main_call3_v0 : Ref sig .tc := ⟨.hbm, 75, rfl⟩
abbrev main_v23 : Ref sig .tc := ⟨.hbm, 76, rfl⟩
abbrev main_v24 : Ref sig .tc := ⟨.hbm, 77, rfl⟩
abbrev main_v25 : Ref sig .tc := ⟨.hbm, 78, rfl⟩
abbrev main_v26 : Ref sig .tc := ⟨.hbm, 79, rfl⟩
abbrev main_v27 : Ref sig .tc := ⟨.hbm, 80, rfl⟩
abbrev main_v28 : Ref sig .tc := ⟨.hbm, 81, rfl⟩
abbrev main_v29 : Ref sig .tc := ⟨.hbm, 82, rfl⟩
abbrev main_v30 : Ref sig .tc := ⟨.hbm, 83, rfl⟩
abbrev main_v31 : Ref sig .tc := ⟨.hbm, 84, rfl⟩
abbrev main_v32 : Ref sig .tc := ⟨.hbm, 85, rfl⟩
abbrev main_v33 : Ref sig .tc := ⟨.hbm, 86, rfl⟩
abbrev main_v34 : Ref sig .tc := ⟨.hbm, 87, rfl⟩
abbrev main_v35 : Ref sig .tc := ⟨.hbm, 88, rfl⟩
abbrev main_v36 : Ref sig .tc := ⟨.hbm, 89, rfl⟩
abbrev main_v37 : Ref sig .tc := ⟨.hbm, 90, rfl⟩
abbrev main_v38 : Ref sig .tc := ⟨.hbm, 91, rfl⟩
abbrev main_arg8 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_scratch5 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨2, ![64, 8], ![false, false]⟩

abbrev pre0 : Pipeline.Prefetch sig := ⟨1, ![main_arg8.idx], fun | 0 => main_arg8.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond3 (i : grid0.Coords) : BitVec 1 :=
  let arg1 : BitVec 32 := BitVec.ofNat 32 (i 1).val
  let c7_i32 : BitVec 32 := 7#32
  let v9 : BitVec 1 := Scalar.cmpi .eq arg1 c7_i32
  let v10 : BitVec 32 := Scalar.extui v9
  let c0_i32_2 : BitVec 32 := 0#32
  let v11 : BitVec 1 := Scalar.cmpi .ne v10 c0_i32_2
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (k0_off1_inb : ∀ i : grid0.Coords, ∀ a, (k0_off1 i) a + S1.size a ≤ S64.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S64) ![v0.toNat] S1.size (k0_off1_inb i)) numel1_S1
  let c1_i32 : BitVec 32 := 1#32
  let v2 : BitVec 32 := Scalar.subi v1 c1_i32
  let c512_i32 : BitVec 32 := 512#32
  let v3 : BitVec 32 := Scalar.divsi v2 c512_i32
  let c0_i32 : BitVec 32 := 0#32
  let v4 : BitVec 32 := Scalar.maxsi v3 c0_i32
  let v5 : BitVec 32 := Scalar.minsi arg1 v4
  let c0_i32_0 : BitVec 32 := 0#32
  let c0_i32_1 : BitVec 32 := 0#32
  let c0_i32_2 : BitVec 32 := 0#32
  ![arg0.toNat, c0_i32_0.toNat, c0_i32_1.toNat, v5.toNat]

def cc0_transform_4 (k0_off1_inb : ∀ i : grid0.Coords, ∀ a, (k0_off1 i) a + S1.size a ≤ S64.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S64) ![v0.toNat] S1.size (k0_off1_inb i)) numel1_S1
  let c1_i32 : BitVec 32 := 1#32
  let v2 : BitVec 32 := Scalar.subi v1 c1_i32
  let c512_i32 : BitVec 32 := 512#32
  let v3 : BitVec 32 := Scalar.divsi v2 c512_i32
  let c0_i32 : BitVec 32 := 0#32
  let v4 : BitVec 32 := Scalar.maxsi v3 c0_i32
  let v5 : BitVec 32 := Scalar.minsi arg1 v4
  let c0_i32_0 : BitVec 32 := 0#32
  let c0_i32_1 : BitVec 32 := 0#32
  let c0_i32_2 : BitVec 32 := 0#32
  ![arg0.toNat, c0_i32_0.toNat, c0_i32_1.toNat, v5.toNat]

def cc0_transform_5 (k0_off1_inb : ∀ i : grid0.Coords, ∀ a, (k0_off1 i) a + S1.size a ≤ S64.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S64) ![v0.toNat] S1.size (k0_off1_inb i)) numel1_S1
  let c1_i32 : BitVec 32 := 1#32
  let v2 : BitVec 32 := Scalar.subi v1 c1_i32
  let c512_i32 : BitVec 32 := 512#32
  let v3 : BitVec 32 := Scalar.divsi v2 c512_i32
  let c0_i32 : BitVec 32 := 0#32
  let v4 : BitVec 32 := Scalar.maxsi v3 c0_i32
  let v5 : BitVec 32 := Scalar.minsi arg1 v4
  let c0_i32_0 : BitVec 32 := 0#32
  let c0_i32_1 : BitVec 32 := 0#32
  ![arg0.toNat, c0_i32_0.toNat, v5.toNat]

def cc0_transform_6 (k0_off1_inb : ∀ i : grid0.Coords, ∀ a, (k0_off1 i) a + S1.size a ≤ S64.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S64) ![v0.toNat] S1.size (k0_off1_inb i)) numel1_S1
  let c1_i32 : BitVec 32 := 1#32
  let v2 : BitVec 32 := Scalar.subi v1 c1_i32
  let c512_i32 : BitVec 32 := 512#32
  let v3 : BitVec 32 := Scalar.divsi v2 c512_i32
  let c0_i32 : BitVec 32 := 0#32
  let v4 : BitVec 32 := Scalar.maxsi v3 c0_i32
  let v5 : BitVec 32 := Scalar.minsi arg1 v4
  let c0_i32_0 : BitVec 32 := 0#32
  let c0_i32_1 : BitVec 32 := 0#32
  let c0_i32_2 : BitVec 32 := 0#32
  ![arg0.toNat, c0_i32_0.toNat, c0_i32_1.toNat, v5.toNat]

def cc0_transform_7 (k0_off1_inb : ∀ i : grid0.Coords, ∀ a, (k0_off1 i) a + S1.size a ≤ S64.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S64) ![v0.toNat] S1.size (k0_off1_inb i)) numel1_S1
  let c1_i32 : BitVec 32 := 1#32
  let v2 : BitVec 32 := Scalar.subi v1 c1_i32
  let c512_i32 : BitVec 32 := 512#32
  let v3 : BitVec 32 := Scalar.divsi v2 c512_i32
  let c0_i32 : BitVec 32 := 0#32
  let v4 : BitVec 32 := Scalar.maxsi v3 c0_i32
  let v5 : BitVec 32 := Scalar.minsi arg1 v4
  let c0_i32_0 : BitVec 32 := 0#32
  let c0_i32_1 : BitVec 32 := 0#32
  let c0_i32_2 : BitVec 32 := 0#32
  ![arg0.toNat, c0_i32_0.toNat, c0_i32_1.toNat, v5.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x16x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x64x512 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x64x512 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x4x512 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8x4x512 .i16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S8x16x128 .i16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S8x16x128 .i16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S128x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x16x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== ReferenceIdeal.lean ====
abbrev S64x4x4096 : Shape := ⟨3, ![64, 4, 4096]⟩
abbrev S64x4x8x128 : Shape := ⟨4, ![64, 4, 8, 128]⟩
abbrev S64x4096x8x64 : Shape := ⟨4, ![64, 4096, 8, 64]⟩
abbrev S8x128x16 : Shape := ⟨3, ![8, 128, 16]⟩
abbrev S64x4096x8 : Shape := ⟨3, ![64, 4096, 8]⟩
abbrev S64 : Shape := ⟨1, ![64]⟩
abbrev S64x4096x8x4 : Shape := ⟨4, ![64, 4096, 8, 4]⟩
abbrev S64x4x8x4x128 : Shape := ⟨5, ![64, 4, 8, 4, 128]⟩
abbrev S64x4096x8x64x1 : Shape := ⟨5, ![64, 4096, 8, 64, 1]⟩
abbrev S2 : Shape := ⟨1, ![2]⟩
abbrev S_ : Shape := ⟨0, ![]⟩
abbrev S1x1x1x1x2 : Shape := ⟨5, ![1, 1, 1, 1, 2]⟩
abbrev S64x4096x8x64x2 : Shape := ⟨5, ![64, 4096, 8, 64, 2]⟩
abbrev S64x4096x8x128 : Shape := ⟨4, ![64, 4096, 8, 128]⟩
abbrev S64x4096x8x128x1 : Shape := ⟨5, ![64, 4096, 8, 128, 1]⟩
abbrev S16 : Shape := ⟨1, ![16]⟩
abbrev S1x1x1x1x16 : Shape := ⟨5, ![1, 1, 1, 1, 16]⟩
abbrev S64x4096x8x128x16 : Shape := ⟨5, ![64, 4096, 8, 128, 16]⟩
abbrev S64x4096x8x1 : Shape := ⟨4, ![64, 4096, 8, 1]⟩
abbrev S128 : Shape := ⟨1, ![128]⟩
abbrev S1x1x1x128 : Shape := ⟨4, ![1, 1, 1, 128]⟩
abbrev S64x8x4096x4x4 : Shape := ⟨5, ![64, 8, 4096, 4, 4]⟩
abbrev S64x8x4x4x4096 : Shape := ⟨5, ![64, 8, 4, 4, 4096]⟩
abbrev S4096 : Shape := ⟨1, ![4096]⟩
abbrev S1x4096 : Shape := ⟨2, ![1, 4096]⟩
abbrev S64x1 : Shape := ⟨2, ![64, 1]⟩
abbrev S64x4096 : Shape := ⟨2, ![64, 4096]⟩
abbrev S64x1x1x1x4096 : Shape := ⟨5, ![64, 1, 1, 1, 4096]⟩
abbrev S64x8x4x4x4 : Shape := ⟨5, ![64, 8, 4, 4, 4]⟩
abbrev S4 : Shape := ⟨1, ![4]⟩
abbrev S4x1 : Shape := ⟨2, ![4, 1]⟩
abbrev S1x4 : Shape := ⟨2, ![1, 4]⟩
abbrev S4x4 : Shape := ⟨2, ![4, 4]⟩
abbrev S64x8x4x4x4100 : Shape := ⟨5, ![64, 8, 4, 4, 4100]⟩
abbrev S64x8x4x4 : Shape := ⟨4, ![64, 8, 4, 4]⟩
abbrev S64x8x4x4x1 : Shape := ⟨5, ![64, 8, 4, 4, 1]⟩
abbrev S64x8x4096 : Shape := ⟨3, ![64, 8, 4096]⟩
abbrev S64x8x1x1x4096 : Shape := ⟨5, ![64, 8, 1, 1, 4096]⟩
abbrev S64x8x128x4x4 : Shape := ⟨5, ![64, 8, 128, 4, 4]⟩

abbrev nBuf : Space → Nat
  | .hbm => 189
  | .vmem => 0
  | .smem => 0
  | _ => 0

abbrev hbmTy0_0 (i : Nat) : BufTy := match i % 128 with
  | 0 => ⟨S64x4x4096, .bf16⟩
  | 1 => ⟨S64x4x8x128, .bf16⟩
  | 2 => ⟨S64x4x8x128, .bf16⟩
  | 3 => ⟨S64x4096x8x64, .i8⟩
  | 4 => ⟨S64x4096x8x64, .i8⟩
  | 5 => ⟨S8x128x16, .i16⟩
  | 6 => ⟨S8x128x16, .i16⟩
  | 7 => ⟨S64x4096x8, .f32⟩
  | 8 => ⟨S64, .i32⟩
  | 9 => ⟨S64x4096x8x4, .i32⟩
  | 10 => ⟨S64x4096x8x4, .i16⟩
  | 11 => ⟨S8x128x16, .bf16⟩
  | 12 => ⟨S8x128x16, .bf16⟩
  | 13 => ⟨S64x4096x8x4, .bf16⟩
  | 14 => ⟨S64x4x8x4x128, .bf16⟩
  | 15 => ⟨S64x4096x8x64, .i32⟩
  | 16 => ⟨S64x4096x8x64x1, .i32⟩
  | 17 => ⟨S2, .i32⟩
  | 18 => ⟨S_, .i32⟩
  | 19 => ⟨S2, .i32⟩
  | 20 => ⟨S2, .i32⟩
  | 21 => ⟨S1x1x1x1x2, .i32⟩
  | 22 => ⟨S64x4096x8x64x2, .i32⟩
  | 23 => ⟨S64x4096x8x64x2, .i32⟩
  | 24 => ⟨S64x4096x8x64x2, .i32⟩
  | 25 => ⟨S_, .i32⟩
  | 26 => ⟨S64x4096x8x64x2, .i32⟩
  | 27 => ⟨S64x4096x8x64x2, .i32⟩
  | 28 => ⟨S64x4096x8x128, .i32⟩
  | 29 => ⟨S64x4096x8x128x1, .i32⟩
  | 30 => ⟨S16, .i32⟩
  | 31 => ⟨S1x1x1x1x16, .i32⟩
  | 32 => ⟨S64x4096x8x128x16, .i32⟩
  | 33 => ⟨S64x4096x8x128x16, .i32⟩
  | 34 => ⟨S64x4096x8x128x16, .i1⟩
  | 35 => ⟨S_, .i32⟩
  | 36 => ⟨S_, .bf16⟩
  | 37 => ⟨S64x4096x8x128x16, .bf16⟩
  | 38 => ⟨S64x4096x8x128x16, .bf16⟩
  | 39 => ⟨S64x4096x8x128x16, .bf16⟩
  | 40 => ⟨S64x4096x8x128x16, .f32⟩
  | 41 => ⟨S_, .f32⟩
  | 42 => ⟨S64x4096x8x128, .f32⟩
  | 43 => ⟨S64x4096x8x128, .bf16⟩
  | 44 => ⟨S64x4096x8x1, .i32⟩
  | 45 => ⟨S64x4096x8, .i32⟩
  | 46 => ⟨S64x4096x8x1, .i32⟩
  | 47 => ⟨S128, .i32⟩
  | 48 => ⟨S1x1x1x128, .i32⟩
  | 49 => ⟨S64x4096x8x128, .i32⟩
  | 50 => ⟨S64x4096x8x128, .i32⟩
  | 51 => ⟨S64x4096x8x128, .i1⟩
  | 52 => ⟨S64x4096x8x1, .bf16⟩
  | 53 => ⟨S64x4096x8, .bf16⟩
  | 54 => ⟨S64x4096x8x1, .bf16⟩
  | 55 => ⟨S64x4096x8x128, .bf16⟩
  | 56 => ⟨S64x4096x8x128, .bf16⟩
  | 57 => ⟨S64x4096x8x1, .i32⟩
  | 58 => ⟨S64x4096x8, .i32⟩
  | 59 => ⟨S64x4096x8x1, .i32⟩
  | 60 => ⟨S128, .i32⟩
  | 61 => ⟨S1x1x1x128, .i32⟩
  | 62 => ⟨S64x4096x8x128, .i32⟩
  | 63 => ⟨S64x4096x8x128, .i32⟩
  | 64 => ⟨S64x4096x8x128, .i1⟩
  | 65 => ⟨S64x4096x8x1, .bf16⟩
  | 66 => ⟨S64x4096x8, .bf16⟩
  | 67 => ⟨S64x4096x8x1, .bf16⟩
  | 68 => ⟨S64x4096x8x128, .bf16⟩
  | 69 => ⟨S64x4096x8x128, .bf16⟩
  | 70 => ⟨S64x4096x8x1, .i32⟩
  | 71 => ⟨S64x4096x8, .i32⟩
  | 72 => ⟨S64x4096x8x1, .i32⟩
  | 73 => ⟨S128, .i32⟩
  | 74 => ⟨S1x1x1x128, .i32⟩
  | 75 => ⟨S64x4096x8x128, .i32⟩
  | 76 => ⟨S64x4096x8x128, .i32⟩
  | 77 => ⟨S64x4096x8x128, .i1⟩
  | 78 => ⟨S64x4096x8x1, .bf16⟩
  | 79 => ⟨S64x4096x8, .bf16⟩
  | 80 => ⟨S64x4096x8x1, .bf16⟩
  | 81 => ⟨S64x4096x8x128, .bf16⟩
  | 82 => ⟨S64x4096x8x128, .bf16⟩
  | 83 => ⟨S64x4096x8x1, .i32⟩
  | 84 => ⟨S64x4096x8, .i32⟩
  | 85 => ⟨S64x4096x8x1, .i32⟩
  | 86 => ⟨S128, .i32⟩
  | 87 => ⟨S1x1x1x128, .i32⟩
  | 88 => ⟨S64x4096x8x128, .i32⟩
  | 89 => ⟨S64x4096x8x128, .i32⟩
  | 90 => ⟨S64x4096x8x128, .i1⟩
  | 91 => ⟨S64x4096x8x1, .bf16⟩
  | 92 => ⟨S64x4096x8, .bf16⟩
  | 93 => ⟨S64x4096x8x1, .bf16⟩
  | 94 => ⟨S64x4096x8x128, .bf16⟩
  | 95 => ⟨S64x4096x8x128, .bf16⟩
  | 96 => ⟨S64x4096x8x64, .i32⟩
  | 97 => ⟨S64x4096x8x64x1, .i32⟩
  | 98 => ⟨S2, .i32⟩
  | 99 => ⟨S_, .i32⟩
  | 100 => ⟨S2, .i32⟩
  | 101 => ⟨S2, .i32⟩
  | 102 => ⟨S1x1x1x1x2, .i32⟩
  | 103 => ⟨S64x4096x8x64x2, .i32⟩
  | 104 => ⟨S64x4096x8x64x2, .i32⟩
  | 105 => ⟨S64x4096x8x64x2, .i32⟩
  | 106 => ⟨S_, .i32⟩
  | 107 => ⟨S64x4096x8x64x2, .i32⟩
  | 108 => ⟨S64x4096x8x64x2, .i32⟩
  | 109 => ⟨S64x4096x8x128, .i32⟩
  | 110 => ⟨S64x4096x8x128x1, .i32⟩
  | 111 => ⟨S16, .i32⟩
  | 112 => ⟨S1x1x1x1x16, .i32⟩
  | 113 => ⟨S64x4096x8x128x16, .i32⟩
  | 114 => ⟨S64x4096x8x128x16, .i32⟩
  | 115 => ⟨S64x4096x8x128x16, .i1⟩
  | 116 => ⟨S_, .i32⟩
  | 117 => ⟨S_, .bf16⟩
  | 118 => ⟨S64x4096x8x128x16, .bf16⟩
  | 119 => ⟨S64x4096x8x128x16, .bf16⟩
  | 120 => ⟨S64x4096x8x128x16, .bf16⟩
  | 121 => ⟨S64x4096x8x128x16, .f32⟩
  | 122 => ⟨S_, .f32⟩
  | 123 => ⟨S64x4096x8x128, .f32⟩
  | 124 => ⟨S64x4096x8x128, .bf16⟩
  | 125 => ⟨S64x8x4096x4x4, .f32⟩
  | 126 => ⟨S64x8x4x4x4096, .f32⟩
  | 127 => ⟨S_, .f32⟩
  | _ => ⟨S64x4x4096, .bf16⟩

abbrev hbmTy0_1 (i : Nat) : BufTy := match i % 128 with
  | 0 => ⟨S64x8x4x4x4096, .f32⟩
  | 1 => ⟨S64x8x4x4x4096, .f32⟩
  | 2 => ⟨S4096, .i32⟩
  | 3 => ⟨S1x4096, .i32⟩
  | 4 => ⟨S64x1, .i32⟩
  | 5 => ⟨S64x4096, .i32⟩
  | 6 => ⟨S64x4096, .i32⟩
  | 7 => ⟨S64x4096, .i1⟩
  | 8 => ⟨S64x1x1x1x4096, .i1⟩
  | 9 => ⟨S_, .f32⟩
  | 10 => ⟨S_, .f32⟩
  | 11 => ⟨S64x8x4x4x4096, .i1⟩
  | 12 => ⟨S64x8x4x4x4096, .f32⟩
  | 13 => ⟨S64x8x4x4x4096, .f32⟩
  | 14 => ⟨S64x8x4x4x4, .f32⟩
  | 15 => ⟨S64x8x4x4x4, .f32⟩
  | 16 => ⟨S_, .f32⟩
  | 17 => ⟨S64x8x4x4x4, .f32⟩
  | 18 => ⟨S64x8x4x4x4, .f32⟩
  | 19 => ⟨S4, .i32⟩
  | 20 => ⟨S4x1, .i32⟩
  | 21 => ⟨S4, .i32⟩
  | 22 => ⟨S1x4, .i32⟩
  | 23 => ⟨S4x4, .i32⟩
  | 24 => ⟨S4x4, .i32⟩
  | 25 => ⟨S4x4, .i1⟩
  | 26 => ⟨S_, .f32⟩
  | 27 => ⟨S_, .f32⟩
  | 28 => ⟨S64x8x4x4x4, .i1⟩
  | 29 => ⟨S64x8x4x4x4, .f32⟩
  | 30 => ⟨S64x8x4x4x4, .f32⟩
  | 31 => ⟨S64x8x4x4x4100, .f32⟩
  | 32 => ⟨S_, .f32⟩
  | 33 => ⟨S64x8x4x4, .f32⟩
  | 34 => ⟨S_, .f32⟩
  | 35 => ⟨S64x8x4x4, .f32⟩
  | 36 => ⟨S64x8x4x4, .f32⟩
  | 37 => ⟨S64x8x4x4x1, .f32⟩
  | 38 => ⟨S64x8x4x4x4100, .f32⟩
  | 39 => ⟨S64x8x4x4x4100, .f32⟩
  | 40 => ⟨S64x8x4x4x4100, .f32⟩
  | 41 => ⟨S_, .f32⟩
  | 42 => ⟨S64x8x4x4, .f32⟩
  | 43 => ⟨S64x8x4x4x1, .f32⟩
  | 44 => ⟨S64x8x4x4x4100, .f32⟩
  | 45 => ⟨S64x8x4x4x4100, .f32⟩
  | 46 => ⟨S64x8x4x4x4096, .f32⟩
  | 47 => ⟨S64x8x4x4x4, .f32⟩
  | 48 => ⟨S64x8x4096, .f32⟩
  | 49 => ⟨S64x8x1x1x4096, .f32⟩
  | 50 => ⟨S64x8x4x4x4096, .f32⟩
  | 51 => ⟨S64x8x4x4x4096, .f32⟩
  | 52 => ⟨S64x8x4x4x4096, .bf16⟩
  | 53 => ⟨S64x8x128x4x4, .f32⟩
  | 54 => ⟨S64x4x8x4x128, .f32⟩
  | 55 => ⟨S64x8x4x4x4, .bf16⟩
  | 56 => ⟨S64x8x128x4x4, .f32⟩
  | 57 => ⟨S64x4x8x4x128, .f32⟩
  | 58 => ⟨S64x4x8x4x128, .f32⟩
  | 59 => ⟨S64x4x4096, .f32⟩
  | 60 => ⟨S64x4x4096, .bf16⟩
  | _ => ⟨S64x4x4096, .bf16⟩

abbrev hbmTy (i : Nat) : BufTy := match i / 128 with
  | 0 => hbmTy0_0 i
  | 1 => hbmTy0_1 i
  | _ => ⟨S64x4x4096, .bf16⟩

abbrev bufTy : (tb : Table) → Fin (tcTables nBuf tb) → BufTy
  | .hbm, ⟨i, _⟩ => hbmTy i
  | _, _ => ⟨S64x4x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c_0 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_1 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_v22 : Ref sig .tc := ⟨.hbm, 39, rfl⟩
abbrev main_v23 : Ref sig .tc := ⟨.hbm, 40, rfl⟩
abbrev main_cst : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_call1_v0 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_call2_v0 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_call3_v0 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_call4_v0 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_c_2 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_c_3 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_c_4 : Ref sig .tc := ⟨.hbm, 116, rfl⟩
abbrev main_call5_v0 : Ref sig .tc := ⟨.hbm, 117, rfl⟩
abbrev main_call5_v1 : Ref sig .tc := ⟨.hbm, 118, rfl⟩
abbrev main_call5_v2 : Ref sig .tc := ⟨.hbm, 119, rfl⟩
abbrev main_v92 : Ref sig .tc := ⟨.hbm, 120, rfl⟩
abbrev main_v93 : Ref sig .tc := ⟨.hbm, 121, rfl⟩
abbrev main_cst_5 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_cst_6 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_cst_7 : Ref sig .tc := ⟨.hbm, 137, rfl⟩
abbrev main_call6_v0 : Ref sig .tc := ⟨.hbm, 138, rfl⟩
abbrev main_call6_v1 : Ref sig .tc := ⟨.hbm, 139, rfl⟩
abbrev main_call6_v2 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_cst_8 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_cst_9 : Ref sig .tc := ⟨.hbm, 154, rfl⟩
abbrev main_call7_v0 : Ref sig .tc := ⟨.hbm, 155, rfl⟩
abbrev main_call7_v1 : Ref sig .tc := ⟨.hbm, 156, rfl⟩
abbrev main_call7_v2 : Ref sig .tc := ⟨.hbm, 157, rfl⟩
abbrev main_v119 : Ref sig .tc := ⟨.hbm, 158, rfl⟩
abbrev main_v120 : Ref sig .tc := ⟨.hbm, 159, rfl⟩
abbrev main_cst_10 : Ref sig .tc := ⟨.hbm, 160, rfl⟩
abbrev main_v121 : Ref sig .tc := ⟨.hbm, 161, rfl⟩
abbrev main_cst_11 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_cst_12 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩

abbrev nD : Nat := 1
abbrev τ : Topo := Topo.v7x

variable {F : FTy → Type} [FloatOps F]
-- ==== Proof.Words.lean ====
/- Facts on 32-bit words: the tile a grid point reads, `min (t, max (last tile, 0))`, is never past the point's own
   tile `t`, and is `t` itself where the point's first key lies inside the filled part of the cache. -/
module

public import Idealize.ShloMosaic.PureOps
public import Idealize.ShloMosaic.Lib.Affine

@[expose] public section

namespace Cert.Words

open Idealize.ShloMosaic

/-- The smaller of a small nonnegative word and a nonnegative one, read unsigned, is at most the former. -/
theorem toNat_minsi_maxsi_le (n : ℕ) (hn : n < 8) (v : BitVec 32) :
    (Scalar.minsi (BitVec.ofNat 32 n) (Scalar.maxsi v 0#32)).toNat ≤ n := by
  simp only [Scalar.minsi, Scalar.maxsi, IntOp.minsi, IntOp.maxsi, BitVec.slt_eq_decide, decide_eq_true_eq]
  have h1 : (BitVec.ofNat 32 n).toNat = n := by simp; omega
  have h2 : (BitVec.ofNat 32 n).toInt = n := by rw [BitVec.toInt_eq_toNat_cond, h1]; split <;> omega
  rw [h2]
  have h0 : (0#32 : BitVec 32).toInt = 0 := rfl
  rw [h0]
  have hv := BitVec.toInt_eq_toNat_cond v
  have := v.isLt
  by_cases hc : 2 * v.toNat < 2 ^ 32
  · rw [if_pos hc] at hv
    split_ifs <;> simp_all <;> omega
  · rw [if_neg hc] at hv
    split_ifs <;> simp_all <;> omega

end Cert.Words
-- ==== Proof.TablesKernel.lean ====
/- The side condition of `Kernel`'s prefetched lengths: whatever they are, every block a window names lies inside its array
   and begins and ends at whole words. -/
module

public import proofs.«01_k».proof.Proof.Gen.Kernel
public import proofs.«01_k».proof.Proof.Words

@[expose] public section

namespace Cert.Kernel.Tables

open Idealize.ShloMosaic Cert.Kernel Cert.Kernel.Gen

variable {F : FTy → Type} [FloatOps F]

/-- The tile of the cache that a grid point reads: its own, or the last one that holds a filled position. -/
def tile (pf : pre0.Contents (Elt F)) (i : grid0.Coords) : ℕ :=
  (Scalar.minsi (BitVec.ofNat 32 (i 1).val) (Scalar.maxsi (Scalar.divsi (Scalar.subi (pf.at 0 (Rect.unit (s := S64)
    ![(Scalar.indexCast (BitVec.ofNat 32 (i 0).val) : Index).toNat] S1.size (k0_off1_inb i)) numel1_S1) 1#32) 512#32) 0#32)).toNat

theorem tile_lt (pf : pre0.Contents (Elt F)) (i : grid0.Coords) : tile pf i < 8 :=
  lt_of_le_of_lt (Words.toNat_minsi_maxsi_le _ (i 1).isLt _) (i 1).isLt

theorem batch (i : grid0.Coords) : (BitVec.ofNat 32 (i 0).val).toNat = (i 0).val := by
  have : (i 0).val < 64 := (i 0).isLt
  simp; omega

theorem transform_3 (pf : pre0.Contents (Elt F)) (i : grid0.Coords) :
    cc0_transform_3 k0_off1_inb numel1_S1 pf i = ![(i 0).val, 0, 0, tile pf i] :=
  (show _ = ![(BitVec.ofNat 32 (i 0).val).toNat, 0, 0, tile pf i] from rfl).trans (by rw [batch])

theorem transform_4 (pf : pre0.Contents (Elt F)) (i : grid0.Coords) :
    cc0_transform_4 k0_off1_inb numel1_S1 pf i = ![(i 0).val, 0, 0, tile pf i] :=
  (show _ = ![(BitVec.ofNat 32 (i 0).val).toNat, 0, 0, tile pf i] from rfl).trans (by rw [batch])

theorem transform_5 (pf : pre0.Contents (Elt F)) (i : grid0.Coords) :
    cc0_transform_5 k0_off1_inb numel1_S1 pf i = ![(i 0).val, 0, tile pf i] :=
  (show _ = ![(BitVec.ofNat 32 (i 0).val).toNat, 0, tile pf i] from rfl).trans (by rw [batch])

theorem transform_6 (pf : pre0.Contents (Elt F)) (i : grid0.Coords) :
    cc0_transform_6 k0_off1_inb numel1_S1 pf i = ![(i 0).val, 0, 0, tile pf i] :=
  (show _ = ![(BitVec.ofNat 32 (i 0).val).toNat, 0, 0, tile pf i] from rfl).trans (by rw [batch])

theorem transform_7 (pf : pre0.Contents (Elt F)) (i : grid0.Coords) :
    cc0_transform_7 k0_off1_inb numel1_S1 pf i = ![(i 0).val, 0, 0, tile pf i] :=
  (show _ = ![(BitVec.ofNat 32 (i 0).val).toNat, 0, 0, tile pf i] from rfl).trans (by rw [batch])

/-- Any lengths are admissible. -/
theorem admissible (pf : pre0.Contents (Elt F)) : ok0 (F := F) pf := by
  have hb (i : grid0.Coords) : (i 0).val < 64 := (i 0).isLt
  have ht := tile_lt pf
  have inside4 (i : grid0.Coords) (p q : ℕ) : ∀ a : Fin 4,
      ((![(i 0).val, 0, 0, tile pf i] : Fin 4 → ℕ) a + 1) * (![1, p, q, 512] : Fin 4 → ℕ) a ≤ (![64, p, q, 4096] : Fin 4 → ℕ) a := by
    intro a
    have := hb i
    have := ht i
    fin_cases a <;> simp <;> omega
  have inside3 (i : grid0.Coords) (p : ℕ) : ∀ a : Fin 3,
      ((![(i 0).val, 0, tile pf i] : Fin 3 → ℕ) a + 1) * (![1, p, 512] : Fin 3 → ℕ) a ≤ (![64, p, 4096] : Fin 3 → ℕ) a := by
    intro a
    have := hb i
    have := ht i
    fin_cases a <;> simp <;> omega
  refine ⟨fun i => ⟨?_, .inr (Affine.block_words_dvd (of_decide_eq_true rfl) (by decide))⟩,
    fun i => ⟨?_, .inr (Affine.block_words_dvd (of_decide_eq_true rfl) (by decide))⟩,
    fun i => ⟨?_, .inl rfl⟩, fun i => ⟨?_, .inl rfl⟩,
    fun i => ⟨?_, .inr (Affine.block_words_dvd (of_decide_eq_true rfl) (by decide))⟩⟩
  · rw [transform_3]; exact inside4 i 8 64
  · rw [transform_4]; exact inside4 i 8 64
  · rw [transform_5]; exact inside3 i 8
  · rw [transform_6]; exact inside4 i 8 4
  · rw [transform_7]; exact inside4 i 8 4

end Cert.Kernel.Tables
-- ==== Proof.TablesKernelIdeal.lean ====
/- The side condition of `KernelIdeal`'s prefetched lengths: whatever they are, every block a window names lies inside its array
   and begins and ends at whole words. -/
module

public import proofs.«01_k».proof.Proof.Gen.KernelIdeal
public import proofs.«01_k».proof.Proof.Words

@[expose] public section

namespace Cert.KernelIdeal.Tables

open Idealize.ShloMosaic Cert.KernelIdeal Cert.KernelIdeal.Gen

variable {F : FTy → Type} [FloatOps F]

/-- The tile of the cache that a grid point reads: its own, or the last one that holds a filled position. -/
def tile (pf : pre0.Contents (Elt F)) (i : grid0.Coords) : ℕ :=
  (Scalar.minsi (BitVec.ofNat 32 (i 1).val) (Scalar.maxsi (Scalar.divsi (Scalar.subi (pf.at 0 (Rect.unit (s := S64)
    ![(Scalar.indexCast (BitVec.ofNat 32 (i 0).val) : Index).toNat] S1.size (k0_off1_inb i)) numel1_S1) 1#32) 512#32) 0#32)).toNat

theorem tile_lt (pf : pre0.Contents (Elt F)) (i : grid0.Coords) : tile pf i < 8 :=
  lt_of_le_of_lt (Words.toNat_minsi_maxsi_le _ (i 1).isLt _) (i 1).isLt

theorem batch (i : grid0.Coords) : (BitVec.ofNat 32 (i 0).val).toNat = (i 0).val := by
  have : (i 0).val < 64 := (i 0).isLt
  simp; omega

theorem transform_3 (pf : pre0.Contents (Elt F)) (i : grid0.Coords) :
    cc0_transform_3 k0_off1_inb numel1_S1 pf i = ![(i 0).val, 0, 0, tile pf i] :=
  (show _ = ![(BitVec.ofNat 32 (i 0).val).toNat, 0, 0, tile pf i] from rfl).trans (by rw [batch])

theorem transform_4 (pf : pre0.Contents (Elt F)) (i : grid0.Coords) :
    cc0_transform_4 k0_off1_inb numel1_S1 pf i = ![(i 0).val, 0, 0, tile pf i] :=
  (show _ = ![(BitVec.ofNat 32 (i 0).val).toNat, 0, 0, tile pf i] from rfl).trans (by rw [batch])

theorem transform_5 (pf : pre0.Contents (Elt F)) (i : grid0.Coords) :
    cc0_transform_5 k0_off1_inb numel1_S1 pf i = ![(i 0).val, 0, tile pf i] :=
  (show _ = ![(BitVec.ofNat 32 (i 0).val).toNat, 0, tile pf i] from rfl).trans (by rw [batch])

theorem transform_6 (pf : pre0.Contents (Elt F)) (i : grid0.Coords) :
    cc0_transform_6 k0_off1_inb numel1_S1 pf i = ![(i 0).val, 0, 0, tile pf i] :=
  (show _ = ![(BitVec.ofNat 32 (i 0).val).toNat, 0, 0, tile pf i] from rfl).trans (by rw [batch])

theorem transform_7 (pf : pre0.Contents (Elt F)) (i : grid0.Coords) :
    cc0_transform_7 k0_off1_inb numel1_S1 pf i = ![(i 0).val, 0, 0, tile pf i] :=
  (show _ = ![(BitVec.ofNat 32 (i 0).val).toNat, 0, 0, tile pf i] from rfl).trans (by rw [batch])

/-- Any lengths are admissible. -/
theorem admissible (pf : pre0.Contents (Elt F)) : ok0 (F := F) pf := by
  have hb (i : grid0.Coords) : (i 0).val < 64 := (i 0).isLt
  have ht := tile_lt pf
  have inside4 (i : grid0.Coords) (p q : ℕ) : ∀ a : Fin 4,
      ((![(i 0).val, 0, 0, tile pf i] : Fin 4 → ℕ) a + 1) * (![1, p, q, 512] : Fin 4 → ℕ) a ≤ (![64, p, q, 4096] : Fin 4 → ℕ) a := by
    intro a
    have := hb i
    have := ht i
    fin_cases a <;> simp <;> omega
  have inside3 (i : grid0.Coords) (p : ℕ) : ∀ a : Fin 3,
      ((![(i 0).val, 0, tile pf i] : Fin 3 → ℕ) a + 1) * (![1, p, 512] : Fin 3 → ℕ) a ≤ (![64, p, 4096] : Fin 3 → ℕ) a := by
    intro a
    have := hb i
    have := ht i
    fin_cases a <;> simp <;> omega
  refine ⟨fun i => ⟨?_, .inr (Affine.block_words_dvd (of_decide_eq_true rfl) (by decide))⟩,
    fun i => ⟨?_, .inr (Affine.block_words_dvd (of_decide_eq_true rfl) (by decide))⟩,
    fun i => ⟨?_, .inl rfl⟩, fun i => ⟨?_, .inl rfl⟩,
    fun i => ⟨?_, .inr (Affine.block_words_dvd (of_decide_eq_true rfl) (by decide))⟩⟩
  · rw [transform_3]; exact inside4 i 8 64
  · rw [transform_4]; exact inside4 i 8 64
  · rw [transform_5]; exact inside3 i 8
  · rw [transform_6]; exact inside4 i 8 4
  · rw [transform_7]; exact inside4 i 8 4

end Cert.KernelIdeal.Tables
-- ==== Proof.Tile.lean ====
/-
  What the kernel writes into its two decoded tiles. The kernel decodes a tile of 512 cached tokens sixteen rows
  by 128 lanes at a time; every piece it writes is the same expression of the chunk `c` (128 tokens), the group
  `g` (16 tokens) and the nibble `n`. This module states that expression once.
-/
module

public import proofs.«01_k».proof.Proof.Gen.KernelIdeal.Skeleton
public import Idealize.ShloMosaic.Lib.WholeRead

@[expose] public section

set_option maxRecDepth 16384

noncomputable section

namespace Cert.KernelIdeal.Tile

open Idealize.ShloMosaic Cert.KernelIdeal Cert.KernelIdeal.Gen

variable {F : FTy → Type} [FloatOps F]

/-! ### Where the pieces lie -/

theorem slices_chunk : ∀ c : Fin 4, S128x512.Slices ![0, 128 * c.val] S128x128 := by decide
theorem slices_group : ∀ g : Fin 8, S128x128.Slices ![16 * g.val, 0] S16x128 := by decide
theorem inb_outlier : ∀ (k : Fin 4) (c : Fin 4),
    ∀ a, (![0, 0, k.val, 128 * c.val] : Fin 4 → Nat) a + S1x8x1x128.size a ≤ S1x8x4x512.size a := by decide
theorem inb_table : ∀ (n : Fin 8), ∀ a, (![n.val, 0, 0] : Fin 3 → Nat) a + S1x16x128.size a ≤ S8x16x128.size a := by decide
theorem inb_piece : ∀ (c : Fin 4) (g n : Fin 8),
    ∀ a, (![128 * c.val + 16 * g.val, 128 * n.val] : Fin 2 → Nat) a + S16x128.size a ≤ S512x1024.size a := by decide

/-! ### The decoded pieces, from the loaded vectors -/

/-- The packed codes of a tile as 32-bit words, four channels' bytes in each. -/
def words (v : Vec F S1x8x64x512 .i8) : IVec S128x512 32 :=
  bitcast S128x512 32 (shapeCast S512x512 (shapeCast S8x64x512 v shapeCasts_S1x8x64x512_S8x64x512)
    shapeCasts_S8x64x512_S512x512) bitcasts_S512x512_w8_S128x512_w32

/-- The low (`false`) or high (`true`) sixteen bits of a square of words, turned on its side. -/
def half (hi : Bool) (w : IVec S128x128 32) : IVec S128x128 16 :=
  bif hi then trunci 16 (shrui (transpose S128x128 [1, 0] w transposes_S128x128_p1_0_S128x128) (broadcast S128x128 16#32)) natLt_16_32
  else trunci 16 (transpose S128x128 [1, 0] w transposes_S128x128_p1_0_S128x128) natLt_16_32

/-- The sixteen token rows of group `g`. -/
def group (g : Fin 8) (x : IVec S128x128 16) : IVec S16x128 16 :=
  extractStridedSlice S16x128 ![16 * g.val, 0] x (slices_group g)

/-- Nibble `n` of the words of chunk `c`, group `g`. -/
def code (w : IVec S128x512 32) (c : Fin 4) (g n : Fin 8) : IVec S16x128 32 :=
  andi (shrui (extsi 32 (group g (half (Nat.ble 4 n.val) (extractStridedSlice S128x128 ![0, 128 * c.val] w (slices_chunk c)))) natLt_16_32)
    (broadcast S16x128 (BitVec.ofNat 32 (4 * (n.val % 4))))) (broadcast S16x128 15#32)

/-- The table rows the codes name. -/
def look (t : Vec F S1x16x128 .i16) (i : IVec S16x128 32) : IVec S16x128 16 :=
  dynamicGather 0 (shapeCast S16x128 t shapeCasts_S1x16x128_S16x128)
    (shapeCast S16x128 (shapeCast S16x128x1 i shapeCasts_S16x128_S16x128x1) shapeCasts_S16x128x1_S16x128)

/-- The head channel lane `l` of nibble `n` holds. -/
def chan (n : Fin 8) : IVec S16x128 16 :=
  trunci 16 (addi (muli k0_pay23 (broadcast S16x128 8#32)) (broadcast S16x128 (BitVec.ofNat 32 n.val))) natLt_16_32

/-- An outlier's channel and value joined in one word, one per head and token, repeated over a head's words. -/
def joined (a : Vec F S1x8x1x128 .i32) (b : Vec F S1x8x1x128 .i16) : IVec S128x128 32 :=
  shapeCast S128x128 (broadcastTo S8x16x128 (shapeCast S8x1x128 (shapeCast S8x1x128
    (ori (shapeCast S8x128 a shapeCasts_S1x8x1x128_S8x128)
      (shli (extsi 32 (shapeCast S8x128 b shapeCasts_S1x8x1x128_S8x128 : IVec S8x128 16) natLt_16_32) (broadcast S8x128 16#32)))
    shapeCasts_S8x128_S8x1x128) shapeCasts_S8x1x128_S8x1x128) broadcasts_S8x1x128_S8x16x128) shapeCasts_S8x16x128_S128x128

/-- One outlier put over what was decoded before it. -/
def over (o : IVec S128x128 32) (g n : Fin 8) (old : IVec S16x128 16) : IVec S16x128 16 :=
  select (cmpi .eq (group g (half false o)) (chan n)) (group g (half true o)) old

/-- The keys of chunk `c`, group `g`, nibble `n`. -/
def keyPiece (w : IVec S128x512 32) (t : Vec F S1x16x128 .i16) (o : Fin 4 → IVec S128x128 32) (c : Fin 4) (g n : Fin 8) :
    FVec F S16x128 .bf16 :=
  shapeCast S16x128 (bitcastToFloat .bf16 (over (o 3) g n (over (o 2) g n (over (o 1) g n (over (o 0) g n
    (look (F := F) t (code w c g n))))))) shapeCasts_S16x128_S16x128

/-- The values of chunk `c`, group `g`, nibble `n`. -/
def valPiece (w : IVec S128x512 32) (t : Vec F S1x16x128 .i16) (c : Fin 4) (g n : Fin 8) : FVec F S16x128 .bf16 :=
  shapeCast S16x128 (bitcastToFloat .bf16 (look (F := F) t (code w c g n))) shapeCasts_S16x128_S16x128

/-! ### The lists of pieces, last written first -/

/-- A list over every chunk, group and nibble, last first. -/
def pieces (f : Fin 4 → Fin 8 → Fin 8 → View.Piece (Elt F) S512x1024 .bf16) : List (View.Piece (Elt F) S512x1024 .bf16) :=
  ([3, 2, 1, 0] : List (Fin 4)).flatMap fun c => ([7, 6, 5, 4, 3, 2, 1, 0] : List (Fin 8)).flatMap fun g =>
    ([7, 6, 5, 4, 3, 2, 1, 0] : List (Fin 8)).map fun n => f c g n

/-- The key pieces from the windows' contents. -/
def keyList (arg6 : Memref sig .tc .vmem S1x8x64x512 .i8) (harg6 : arg6.IsWhole)
    (arg9 : Memref sig .tc .vmem S1x8x4x512 .i32) (harg9 : arg9.IsWhole)
    (arg10 : Memref sig .tc .vmem S1x8x4x512 .i16) (harg10 : arg10.IsWhole)
    (arg11 : Memref sig .tc .vmem S8x16x128 .i16) (harg11 : arg11.IsWhole)
    (x3 : Vec F S1x8x64x512 .i8) (x6 : Vec F S1x8x4x512 .i32) (x7 : Vec F S1x8x4x512 .i16) (x8 : Vec F S8x16x128 .i16) :
    List (View.Piece (Elt F) S512x1024 .bf16) :=
  pieces fun c g n => ⟨Rect.unit ![128 * c.val + 16 * g.val, 128 * n.val] S16x128.size (inb_piece c g n),
    keyPiece (words (View.readAt (Elt F) arg6.view (Rect.unit (s := S1x8x64x512) ![0, 0, 0, 0] S1x8x64x512.size inb_S1x8x64x512_S1x8x64x512_0_0_0_0).toLoadRect (harg6.unread x3)))
      (View.readAt (Elt F) arg11.view (Rect.unit (s := S8x16x128) ![n.val, 0, 0] S1x16x128.size (inb_table n)).toLoadRect (harg11.unread x8))
      (fun k => joined (F := F) (View.readAt (Elt F) arg9.view (Rect.unit (s := S1x8x4x512) ![0, 0, k.val, 128 * c.val] S1x8x1x128.size (inb_outlier k c)).toLoadRect (harg9.unread x6))
        (View.readAt (Elt F) arg10.view (Rect.unit (s := S1x8x4x512) ![0, 0, k.val, 128 * c.val] S1x8x1x128.size (inb_outlier k c)).toLoadRect (harg10.unread x7)))
      c g n⟩

/-- The value pieces from the windows' contents. -/
def valList (arg7 : Memref sig .tc .vmem S1x8x64x512 .i8) (harg7 : arg7.IsWhole)
    (arg12 : Memref sig .tc .vmem S8x16x128 .i16) (harg12 : arg12.IsWhole)
    (x4 : Vec F S1x8x64x512 .i8) (x9 : Vec F S8x16x128 .i16) :
    List (View.Piece (Elt F) S512x1024 .bf16) :=
  pieces fun c g n => ⟨Rect.unit ![128 * c.val + 16 * g.val, 128 * n.val] S16x128.size (inb_piece c g n),
    valPiece (words (View.readAt (Elt F) arg7.view (Rect.unit (s := S1x8x64x512) ![0, 0, 0, 0] S1x8x64x512.size inb_S1x8x64x512_S1x8x64x512_0_0_0_0).toLoadRect (harg7.unread x4)))
      (View.readAt (Elt F) arg12.view (Rect.unit (s := S8x16x128) ![n.val, 0, 0] S1x16x128.size (inb_table n)).toLoadRect (harg12.unread x9))
      c g n⟩

end Cert.KernelIdeal.Tile
-- ==== Proof.Step.lean ====
/-
  What one grid point computes, as functions of the vectors it loads: the start of a batch (the new keys), one tile
  of the cache, and the end of a batch. The expressions are the kernel's own, put together.
-/
module

public import proofs.«01_k».proof.Proof.Tile

@[expose] public section

set_option maxRecDepth 16384

noncomputable section

namespace Cert.KernelIdeal.Step

open Idealize.ShloMosaic Cert.KernelIdeal Cert.KernelIdeal.Gen

variable {F : FTy → Type} [FloatOps F]

/-- The scales of tokens `128 k, …` lie in the tile's. -/
theorem inb_scale : ∀ k : Fin 4, ∀ a, (![0, 0, 128 * k.val] : Fin 3 → Nat) a + S1x8x128.size a ≤ S1x8x512.size a := by decide

/-! ### The start of a batch -/

/-- The query rows spread over the columns of their own head. -/
def initQ (x0 : Vec F S1x128x128 .bf16) (x10 : Vec F S128x1024 .bf16) : FVec F S128x1024 .bf16 :=
  k0_pay11 (k0_pay4 x0 x10) k0_pay5 128#32 k0_pay6 k0_pay7 k0_pay8 k0_pay9

/-- The scores of the new keys, before masking. -/
def newScores (x0 : Vec F S1x128x128 .bf16) (x10 : Vec F S128x1024 .bf16) (x1 : Vec F S1x16x1024 .bf16) : FVec F S128x16 .f32 :=
  k0_pay12 (k0_pay4 x0 x10) k0_pay5 128#32 k0_pay6 k0_pay7 k0_pay8 k0_pay9 x1

/-- The row numbers of the score matrix. -/
def rows : IVec S128x16 32 := iota .tc S128x16 32 [0] iota_S128x16_d0_w32

/-- The first running maximum. -/
def initM (x0 : Vec F S1x128x128 .bf16) (x10 : Vec F S128x1024 .bf16) (x1 : Vec F S1x16x1024 .bf16) : FVec F S128x128 .f32 :=
  k0_pay16 (newScores x0 x10 x1) rows 4#32

/-- The first running sum of weights. -/
def initL (x0 : Vec F S1x128x128 .bf16) (x10 : Vec F S128x1024 .bf16) (x1 : Vec F S1x16x1024 .bf16) : FVec F S128x128 .f32 :=
  k0_pay17 (newScores x0 x10 x1) rows 4#32

/-- The first running weighted sum of values. -/
def initAcc (x0 : Vec F S1x128x128 .bf16) (x10 : Vec F S128x1024 .bf16) (x1 x2 : Vec F S1x16x1024 .bf16) : FVec F S16x1024 .f32 :=
  k0_pay1 (k0_pay19 (k0_pay18 (newScores x0 x10 x1) rows 4#32) x2) k0_pay20

/-! ### One tile of the cache -/

/-- The masked scores of a tile. -/
def scores (a n : BitVec 32) (q : Vec F S128x1024 .bf16) (kd : Vec F S512x1024 .bf16) : FVec F S128x512 .f32 :=
  k0_pay1016 (F := F) a n q kd

/-- The running maximum after a tile. -/
def stepM (s : FVec F S128x512 .f32) (m : Vec F S128x128 .f32) : FVec F S128x128 .f32 :=
  maximumf m (broadcastTo S128x128 (shapeCast S128x1
    (multiReduction .maximumf [1] S128 s 0xFF800000#32 reduces_S128x512_S128 (.inl rfl) rfl) shapeCasts_S128_S128x1) broadcasts_S128x1_S128x128)

/-- The weights of a tile's tokens `128 c, …`. -/
def weights (c : Fin 4) (s : FVec F S128x512 .f32) (m' : FVec F S128x128 .f32) : FVec F S128x128 .f32 :=
  exp (subf (extractStridedSlice S128x128 ![0, 128 * c.val] s (Tile.slices_chunk c)) m')

/-- The running sum of weights after a tile. -/
def stepL (s : FVec F S128x512 .f32) (m m' l : FVec F S128x128 .f32) : FVec F S128x128 .f32 :=
  addf (addf (addf (addf (mulf l (exp (subf m m'))) (weights 0 s m')) (weights 1 s m')) (weights 2 s m')) (weights 3 s m')

/-- The weights times the value scales. -/
def scaled (c : Fin 4) (s : FVec F S128x512 .f32) (m' : FVec F S128x128 .f32) (vs : Vec F S1x8x128 .f32) : FVec F S128x128 .bf16 :=
  truncf .bf16 (mulf (weights c s m') (shapeCast S128x128 (broadcastTo S8x16x128 (shapeCast S8x1x128 (shapeCast S8x1x128
    (shapeCast S8x128 vs shapeCasts_S1x8x128_S8x128) shapeCasts_S8x128_S8x1x128) shapeCasts_S8x1x128_S8x1x128)
    broadcasts_S8x1x128_S8x16x128) shapeCasts_S8x16x128_S128x128)) bitsLt_bf16_f32

/-- The head a lane belongs to. -/
def headLane : IVec S16x128 32 := select (andi k0_pay1048 k0_pay1049) (subi k0_pay1047 (broadcast S16x128 1#32)) k0_pay1047

/-- Of eight heads' rows, each lane its own head's. -/
def ownLane (x : FVec F S128x128 .f32) : FVec F S16x128 .f32 :=
  select (cmpi .eq headLane (broadcast S16x128 7#32)) (extractStridedSlice S16x128 ![112, 0] x slices_S128x128_o112_0_S16x128)
  (select (cmpi .eq headLane (broadcast S16x128 6#32)) (extractStridedSlice S16x128 ![96, 0] x slices_S128x128_o96_0_S16x128)
  (select (cmpi .eq headLane (broadcast S16x128 5#32)) (extractStridedSlice S16x128 ![80, 0] x slices_S128x128_o80_0_S16x128)
  (select (cmpi .eq headLane (broadcast S16x128 4#32)) (extractStridedSlice S16x128 ![64, 0] x slices_S128x128_o64_0_S16x128)
  (select (cmpi .eq headLane (broadcast S16x128 3#32)) (extractStridedSlice S16x128 ![48, 0] x slices_S128x128_o48_0_S16x128)
  (select (cmpi .eq headLane (broadcast S16x128 2#32)) (extractStridedSlice S16x128 ![32, 0] x slices_S128x128_o32_0_S16x128)
  (select (cmpi .eq headLane (broadcast S16x128 1#32)) (extractStridedSlice S16x128 ![16, 0] x slices_S128x128_o16_0_S16x128)
  (extractStridedSlice S16x128 ![0, 0] x slices_S128x128_o0_0_S16x128)))))))

/-- Of eight heads' rows, each column its own head's. -/
def ownCol (x : FVec F S128x1024 .f32) : FVec F S16x1024 .f32 :=
  select (cmpi .eq k0_pay20 (broadcast S16x1024 7#32)) (extractStridedSlice S16x1024 ![112, 0] x slices_S128x1024_o112_0_S16x1024)
  (select (cmpi .eq k0_pay20 (broadcast S16x1024 6#32)) (extractStridedSlice S16x1024 ![96, 0] x slices_S128x1024_o96_0_S16x1024)
  (select (cmpi .eq k0_pay20 (broadcast S16x1024 5#32)) (extractStridedSlice S16x1024 ![80, 0] x slices_S128x1024_o80_0_S16x1024)
  (select (cmpi .eq k0_pay20 (broadcast S16x1024 4#32)) (extractStridedSlice S16x1024 ![64, 0] x slices_S128x1024_o64_0_S16x1024)
  (select (cmpi .eq k0_pay20 (broadcast S16x1024 3#32)) (extractStridedSlice S16x1024 ![48, 0] x slices_S128x1024_o48_0_S16x1024)
  (select (cmpi .eq k0_pay20 (broadcast S16x1024 2#32)) (extractStridedSlice S16x1024 ![32, 0] x slices_S128x1024_o32_0_S16x1024)
  (select (cmpi .eq k0_pay20 (broadcast S16x1024 1#32)) (extractStridedSlice S16x1024 ![16, 0] x slices_S128x1024_o16_0_S16x1024)
  (extractStridedSlice S16x1024 ![0, 0] x slices_S128x1024_o0_0_S16x1024)))))))

/-- One lane row repeated over the eight nibbles. -/
def repeated (x : FVec F S16x128 .f32) : FVec F S16x1024 .f32 :=
  concatenate S16x1024 1 [⟨S16x128, x⟩, ⟨S16x128, x⟩, ⟨S16x128, x⟩, ⟨S16x128, x⟩, ⟨S16x128, x⟩, ⟨S16x128, x⟩, ⟨S16x128, x⟩, ⟨S16x128, x⟩]
    concatenates_S16x128_S16x128_S16x128_S16x128_S16x128_S16x128_S16x128_S16x128_S16x1024_d1

/-- A tile's weighted sum of values, all heads' rows against all columns. -/
def weighted (p0 p1 p2 p3 : FVec F S128x128 .bf16) (vd : Vec F S512x1024 .bf16) : FVec F S128x1024 .f32 :=
  matmul dot_S128x512_S512x1024_S128x1024_1_0_0_1_n_n none
    (concatenate S128x512 1 [⟨S128x128, p0⟩, ⟨S128x128, p1⟩, ⟨S128x128, p2⟩, ⟨S128x128, p3⟩] concatenates_S128x128_S128x128_S128x128_S128x128_S128x512_d1)
    vd (constant S128x1024 .f32 0x00000000#32)

/-- The running weighted sum of values after a tile. -/
def stepAcc (s : FVec F S128x512 .f32) (m m' : FVec F S128x128 .f32) (vs : Fin 4 → Vec F S1x8x128 .f32) (vd : Vec F S512x1024 .bf16)
    (acc : Vec F S16x1024 .f32) : FVec F S16x1024 .f32 :=
  addf (mulf acc (repeated (ownLane (exp (subf m m')))))
    (ownCol (weighted (scaled 0 s m' (vs 0)) (scaled 1 s m' (vs 1)) (scaled 2 s m' (vs 2)) (scaled 3 s m' (vs 3)) vd))

/-! ### The end of a batch -/

/-- The result block: the weighted sum over the total weight. -/
def finish (acc : Vec F S16x1024 .f32) (l : Vec F S128x128 .f32) : FVec F S1x16x1024 .bf16 :=
  shapeCast S1x16x1024 (truncf .bf16 (mulf acc (repeated (ownLane (k0_pay1045 l)))) bitsLt_bf16_f32) shapeCasts_S16x1024_S1x16x1024

end Cert.KernelIdeal.Step
-- ==== Proof.Cases.lean ====
/-
  What the run of each case stores, as the functions of one grid point of what it loads.
-/
module

public import proofs.«01_k».proof.Proof.Gen.KernelIdeal.Frame.RunF
public import proofs.«01_k».proof.Proof.Step

@[expose] public section

set_option maxRecDepth 16384

noncomputable section

namespace Cert.KernelIdeal.Step

open Idealize.ShloMosaic Cert.KernelIdeal Cert.KernelIdeal.Gen

variable {F : FTy → Type} [FloatOps F]

/-! ### The boxes of the stores and the loads -/

abbrev r14 : Rect S1x16x1024 := Rect.unit ![0, 0, 0] S1x16x1024.size inb_S1x16x1024_S1x16x1024_0_0_0
abbrev r15 : Rect S128x1024 := Rect.unit ![0, 0] S128x1024.size inb_S128x1024_S128x1024_0_0
abbrev r16 : Rect S512x1024 := Rect.unit ![0, 0] S512x1024.size inb_S512x1024_S512x1024_0_0
abbrev r18 : Rect S16x1024 := Rect.unit ![0, 0] S16x1024.size inb_S16x1024_S16x1024_0_0
abbrev r19 : Rect S128x128 := Rect.unit ![0, 0] S128x128.size inb_S128x128_S128x128_0_0

variable (c : Dev nD) (i : grid0.Coords)
  (arg3 : Memref sig .tc .vmem S1x128x128 .bf16) (harg3 : arg3.IsWhole)
  (arg4 : Memref sig .tc .vmem S1x16x1024 .bf16) (harg4 : arg4.IsWhole)
  (arg5 : Memref sig .tc .vmem S1x16x1024 .bf16) (harg5 : arg5.IsWhole)
  (arg6 : Memref sig .tc .vmem S1x8x64x512 .i8) (harg6 : arg6.IsWhole)
  (arg7 : Memref sig .tc .vmem S1x8x64x512 .i8) (harg7 : arg7.IsWhole)
  (arg8 : Memref sig .tc .vmem S1x8x512 .f32) (harg8 : arg8.IsWhole)
  (arg9 : Memref sig .tc .vmem S1x8x4x512 .i32) (harg9 : arg9.IsWhole)
  (arg10 : Memref sig .tc .vmem S1x8x4x512 .i16) (harg10 : arg10.IsWhole)
  (arg11 : Memref sig .tc .vmem S8x16x128 .i16) (harg11 : arg11.IsWhole)
  (arg12 : Memref sig .tc .vmem S8x16x128 .i16) (harg12 : arg12.IsWhole)
  (arg13 : Memref sig .tc .vmem S128x1024 .bf16) (harg13 : arg13.IsWhole)
  (arg14 : Memref sig .tc .vmem S1x16x1024 .bf16) (harg14 : arg14.IsWhole)
  (arg15 : Memref sig .tc .vmem S128x1024 .bf16) (harg15 : arg15.IsWhole)
  (arg16 : Memref sig .tc .vmem S512x1024 .bf16) (harg16 : arg16.IsWhole)
  (arg17 : Memref sig .tc .vmem S512x1024 .bf16) (harg17 : arg17.IsWhole)
  (arg18 : Memref sig .tc .vmem S16x1024 .f32) (harg18 : arg18.IsWhole)
  (arg19 : Memref sig .tc .vmem S128x128 .f32) (harg19 : arg19.IsWhole)
  (arg20 : Memref sig .tc .vmem S128x128 .f32) (harg20 : arg20.IsWhole)
  (x0 : Vec F S1x128x128 .bf16) (x1 : Vec F S1x16x1024 .bf16) (x2 : Vec F S1x16x1024 .bf16) (x3 : Vec F S1x8x64x512 .i8)
  (x4 : Vec F S1x8x64x512 .i8) (x5 : Vec F S1x8x512 .f32) (x6 : Vec F S1x8x4x512 .i32) (x7 : Vec F S1x8x4x512 .i16)
  (x8 : Vec F S8x16x128 .i16) (x9 : Vec F S8x16x128 .i16) (x10 : Vec F S128x1024 .bf16)
  (xt0 : TbBuf0 (F := F) c tbM0_0)

/-- The number of valid tokens of the batch of point `i`. -/
def lenWord : BitVec 32 := tbM0_0.view.readAt (Elt F) (Rect.unit (s := S64) (k0_off1 i) S1.size (k0_off1_inb i)).toLoadRect xt0 (Shape.Idx.first (numel1_S1.symm ▸ Nat.one_pos))

/-! ### The windows' contents as they are loaded -/

def ld0 : Vec F S1x128x128 .bf16 := View.readAt (Elt F) arg3.view (Rect.unit (s := S1x128x128) ![0, 0, 0] S1x128x128.size inb_S1x128x128_S1x128x128_0_0_0).toLoadRect (harg3.unread x0)
def ld10 : Vec F S128x1024 .bf16 := View.readAt (Elt F) arg13.view (Rect.unit (s := S128x1024) ![0, 0] S128x1024.size inb_S128x1024_S128x1024_0_0).toLoadRect (harg13.unread x10)
def ld1 : Vec F S1x16x1024 .bf16 := View.readAt (Elt F) arg4.view (Rect.unit (s := S1x16x1024) ![0, 0, 0] S1x16x1024.size inb_S1x16x1024_S1x16x1024_0_0_0).toLoadRect (harg4.unread x1)
def ld2 : Vec F S1x16x1024 .bf16 := View.readAt (Elt F) arg5.view (Rect.unit (s := S1x16x1024) ![0, 0, 0] S1x16x1024.size inb_S1x16x1024_S1x16x1024_0_0_0).toLoadRect (harg5.unread x2)
def ldScale : Fin 4 → Vec F S1x8x128 .f32 := fun k => View.readAt (Elt F) arg8.view (Rect.unit (s := S1x8x512) ![0, 0, 128 * k.val] S1x8x128.size (inb_scale k)).toLoadRect (harg8.unread x5)

/-! ### The stores of the start -/

def LQ : List (View.Piece (Elt F) S128x1024 .bf16) := [⟨r15, initQ (ld0 arg3 harg3 x0) (ld10 arg13 harg13 x10)⟩]
def LA0 : List (View.Piece (Elt F) S16x1024 .f32) := [⟨r18, initAcc (ld0 arg3 harg3 x0) (ld10 arg13 harg13 x10) (ld1 arg4 harg4 x1) (ld2 arg5 harg5 x2)⟩]
def LM0 : List (View.Piece (Elt F) S128x128 .f32) := [⟨r19, initM (ld0 arg3 harg3 x0) (ld10 arg13 harg13 x10) (ld1 arg4 harg4 x1)⟩]
def LL0 : List (View.Piece (Elt F) S128x128 .f32) := [⟨r19, initL (ld0 arg3 harg3 x0) (ld10 arg13 harg13 x10) (ld1 arg4 harg4 x1)⟩]

/-! ### The decoded tile as it is read back, and the stores of a tile -/

def kdOf : Vec F S512x1024 .bf16 := arg16.view.readCov (Tile.keyList arg6 harg6 arg9 harg9 arg10 harg10 arg11 harg11 x3 x6 x7 x8) r16.toLoadRect
def vdOf : Vec F S512x1024 .bf16 := arg17.view.readCov (Tile.valList arg7 harg7 arg12 harg12 x4 x9) r16.toLoadRect
def sOf (n : BitVec 32) (q : Vec F S128x1024 .bf16) (kd : Vec F S512x1024 .bf16) : FVec F S128x512 .f32 := scores (BitVec.ofNat 32 (i 1).val) n q kd
def PM (s : FVec F S128x512 .f32) (m : Vec F S128x128 .f32) : View.Piece (Elt F) S128x128 .f32 :=
  ⟨r19, shapeCast S128x128 (stepM s m) shapeCasts_S128x128_S128x128⟩
def PL (s : FVec F S128x512 .f32) (m l : Vec F S128x128 .f32) : View.Piece (Elt F) S128x128 .f32 :=
  ⟨r19, shapeCast S128x128 (stepL s m (stepM s m) l) shapeCasts_S128x128_S128x128⟩
def PA (s : FVec F S128x512 .f32) (m : Vec F S128x128 .f32) (vs : Fin 4 → Vec F S1x8x128 .f32) (vd : Vec F S512x1024 .bf16)
    (acc : Vec F S16x1024 .f32) : View.Piece (Elt F) S16x1024 .f32 :=
  ⟨r18, shapeCast S16x1024 (stepAcc s m (stepM s m) vs vd acc) shapeCasts_S16x1024_S16x1024⟩

theorem runA_q (hc0 : cond0_0 i) (hc2 : ¬cond0_2 i)  (hc1 : cond0_1 i (lenWord c i xt0)) :
    (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc2 x0 x1 x2 x3 x4 x5 x6 x7 x8 x9 x10 xt0 hc1).2.1 = (LQ arg3 harg3 arg13 harg13 x0 x10) := by
  sl_kernel_rfl

theorem runA_acc (hc0 : cond0_0 i) (hc2 : ¬cond0_2 i)  (hc1 : cond0_1 i (lenWord c i xt0)) :
    (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc2 x0 x1 x2 x3 x4 x5 x6 x7 x8 x9 x10 xt0 hc1).2.2.1 = PA (sOf i (lenWord c i xt0) (arg15.view.readCov ((LQ arg3 harg3 arg13 harg13 x0 x10)) r15.toLoadRect) (kdOf arg6 harg6 arg9 harg9 arg10 harg10 arg11 harg11 arg16 x3 x6 x7 x8)) (arg19.view.readCov (LM0 arg3 harg3 arg4 harg4 arg13 harg13 x0 x1 x10) r19.toLoadRect) (ldScale arg8 harg8 x5) (vdOf arg7 harg7 arg12 harg12 arg17 x4 x9) (arg18.view.readCov (LA0 arg3 harg3 arg4 harg4 arg5 harg5 arg13 harg13 x0 x1 x2 x10) r18.toLoadRect) :: LA0 arg3 harg3 arg4 harg4 arg5 harg5 arg13 harg13 x0 x1 x2 x10 := by
  sl_kernel_rfl

theorem runA_m (hc0 : cond0_0 i) (hc2 : ¬cond0_2 i)  (hc1 : cond0_1 i (lenWord c i xt0)) :
    (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc2 x0 x1 x2 x3 x4 x5 x6 x7 x8 x9 x10 xt0 hc1).2.2.2.1 = PM (sOf i (lenWord c i xt0) (arg15.view.readCov ((LQ arg3 harg3 arg13 harg13 x0 x10)) r15.toLoadRect) (kdOf arg6 harg6 arg9 harg9 arg10 harg10 arg11 harg11 arg16 x3 x6 x7 x8)) (arg19.view.readCov (LM0 arg3 harg3 arg4 harg4 arg13 harg13 x0 x1 x10) r19.toLoadRect) :: LM0 arg3 harg3 arg4 harg4 arg13 harg13 x0 x1 x10 := by
  sl_kernel_rfl

theorem runA_l (hc0 : cond0_0 i) (hc2 : ¬cond0_2 i)  (hc1 : cond0_1 i (lenWord c i xt0)) :
    (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc2 x0 x1 x2 x3 x4 x5 x6 x7 x8 x9 x10 xt0 hc1).2.2.2.2.1 = PL (sOf i (lenWord c i xt0) (arg15.view.readCov ((LQ arg3 harg3 arg13 harg13 x0 x10)) r15.toLoadRect) (kdOf arg6 harg6 arg9 harg9 arg10 harg10 arg11 harg11 arg16 x3 x6 x7 x8)) (arg19.view.readCov (LM0 arg3 harg3 arg4 harg4 arg13 harg13 x0 x1 x10) r19.toLoadRect) (arg20.view.readCov (LL0 arg3 harg3 arg4 harg4 arg13 harg13 x0 x1 x10) r19.toLoadRect) :: LL0 arg3 harg3 arg4 harg4 arg13 harg13 x0 x1 x10 := by
  sl_kernel_rfl

theorem runB_q (hc0 : cond0_0 i) (hc2 : ¬cond0_2 i)  (hc1 : ¬cond0_1 i (lenWord c i xt0)) :
    (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc2 x0 x1 x2 x3 x4 x5 x6 x7 x8 x9 x10 xt0 hc1).2.1 = (LQ arg3 harg3 arg13 harg13 x0 x10) := by
  sl_kernel_rfl

theorem runB_acc (hc0 : cond0_0 i) (hc2 : ¬cond0_2 i)  (hc1 : ¬cond0_1 i (lenWord c i xt0)) :
    (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc2 x0 x1 x2 x3 x4 x5 x6 x7 x8 x9 x10 xt0 hc1).2.2.1 = LA0 arg3 harg3 arg4 harg4 arg5 harg5 arg13 harg13 x0 x1 x2 x10 := by
  sl_kernel_rfl

theorem runB_m (hc0 : cond0_0 i) (hc2 : ¬cond0_2 i)  (hc1 : ¬cond0_1 i (lenWord c i xt0)) :
    (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc2 x0 x1 x2 x3 x4 x5 x6 x7 x8 x9 x10 xt0 hc1).2.2.2.1 = LM0 arg3 harg3 arg4 harg4 arg13 harg13 x0 x1 x10 := by
  sl_kernel_rfl

theorem runB_l (hc0 : cond0_0 i) (hc2 : ¬cond0_2 i)  (hc1 : ¬cond0_1 i (lenWord c i xt0)) :
    (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc2 x0 x1 x2 x3 x4 x5 x6 x7 x8 x9 x10 xt0 hc1).2.2.2.2.1 = LL0 arg3 harg3 arg4 harg4 arg13 harg13 x0 x1 x10 := by
  sl_kernel_rfl

theorem runC_acc (hc0 : ¬cond0_0 i) (hc2 : ¬cond0_2 i) (xs0 : Vec F S128x1024 .bf16) (xs3 : Vec F S16x1024 .f32) (xs4 : Vec F S128x128 .f32) (xs5 : Vec F S128x128 .f32) (hc1 : cond0_1 i (lenWord c i xt0)) :
    (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc2 x0 x1 x2 x3 x4 x5 x6 x7 x8 x9 x10 xt0 xs0 xs3 xs4 xs5 hc1).2.2.1 = [PA (sOf i (lenWord c i xt0) (View.readAt (Elt F) arg15.view r15.toLoadRect (harg15.unread xs0)) (kdOf arg6 harg6 arg9 harg9 arg10 harg10 arg11 harg11 arg16 x3 x6 x7 x8)) (View.readAt (Elt F) arg19.view r19.toLoadRect (harg19.unread xs4)) (ldScale arg8 harg8 x5) (vdOf arg7 harg7 arg12 harg12 arg17 x4 x9) (View.readAt (Elt F) arg18.view r18.toLoadRect (harg18.unread xs3))] := by
  sl_kernel_rfl

theorem runC_m (hc0 : ¬cond0_0 i) (hc2 : ¬cond0_2 i) (xs0 : Vec F S128x1024 .bf16) (xs3 : Vec F S16x1024 .f32) (xs4 : Vec F S128x128 .f32) (xs5 : Vec F S128x128 .f32) (hc1 : cond0_1 i (lenWord c i xt0)) :
    (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc2 x0 x1 x2 x3 x4 x5 x6 x7 x8 x9 x10 xt0 xs0 xs3 xs4 xs5 hc1).2.2.2.1 = [PM (sOf i (lenWord c i xt0) (View.readAt (Elt F) arg15.view r15.toLoadRect (harg15.unread xs0)) (kdOf arg6 harg6 arg9 harg9 arg10 harg10 arg11 harg11 arg16 x3 x6 x7 x8)) (View.readAt (Elt F) arg19.view r19.toLoadRect (harg19.unread xs4))] := by
  sl_kernel_rfl

theorem runC_l (hc0 : ¬cond0_0 i) (hc2 : ¬cond0_2 i) (xs0 : Vec F S128x1024 .bf16) (xs3 : Vec F S16x1024 .f32) (xs4 : Vec F S128x128 .f32) (xs5 : Vec F S128x128 .f32) (hc1 : cond0_1 i (lenWord c i xt0)) :
    (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc2 x0 x1 x2 x3 x4 x5 x6 x7 x8 x9 x10 xt0 xs0 xs3 xs4 xs5 hc1).2.2.2.2.1 = [PL (sOf i (lenWord c i xt0) (View.readAt (Elt F) arg15.view r15.toLoadRect (harg15.unread xs0)) (kdOf arg6 harg6 arg9 harg9 arg10 harg10 arg11 harg11 arg16 x3 x6 x7 x8)) (View.readAt (Elt F) arg19.view r19.toLoadRect (harg19.unread xs4)) (View.readAt (Elt F) arg20.view r19.toLoadRect (harg20.unread xs5))] := by
  sl_kernel_rfl

theorem runE_out (hc0 : ¬cond0_0 i) (hc2 : cond0_2 i) (xs0 : Vec F S128x1024 .bf16) (xs3 : Vec F S16x1024 .f32) (xs4 : Vec F S128x128 .f32) (xs5 : Vec F S128x128 .f32) (hc1 : cond0_1 i (lenWord c i xt0)) :
    (kernelRun0_E c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc2 x0 x1 x2 x3 x4 x5 x6 x7 x8 x9 x10 xt0 xs0 xs3 xs4 xs5 hc1).1 = [⟨r14, finish (arg18.view.readCov ([PA (sOf i (lenWord c i xt0) (View.readAt (Elt F) arg15.view r15.toLoadRect (harg15.unread xs0)) (kdOf arg6 harg6 arg9 harg9 arg10 harg10 arg11 harg11 arg16 x3 x6 x7 x8)) (View.readAt (Elt F) arg19.view r19.toLoadRect (harg19.unread xs4)) (ldScale arg8 harg8 x5) (vdOf arg7 harg7 arg12 harg12 arg17 x4 x9) (View.readAt (Elt F) arg18.view r18.toLoadRect (harg18.unread xs3))]) r18.toLoadRect) (arg20.view.readCov ([PL (sOf i (lenWord c i xt0) (View.readAt (Elt F) arg15.view r15.toLoadRect (harg15.unread xs0)) (kdOf arg6 harg6 arg9 harg9 arg10 harg10 arg11 harg11 arg16 x3 x6 x7 x8)) (View.readAt (Elt F) arg19.view r19.toLoadRect (harg19.unread xs4)) (View.readAt (Elt F) arg20.view r19.toLoadRect (harg20.unread xs5))]) r19.toLoadRect)⟩] := by
  sl_kernel_rfl

theorem runE_acc (hc0 : ¬cond0_0 i) (hc2 : cond0_2 i) (xs0 : Vec F S128x1024 .bf16) (xs3 : Vec F S16x1024 .f32) (xs4 : Vec F S128x128 .f32) (xs5 : Vec F S128x128 .f32) (hc1 : cond0_1 i (lenWord c i xt0)) :
    (kernelRun0_E c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc2 x0 x1 x2 x3 x4 x5 x6 x7 x8 x9 x10 xt0 xs0 xs3 xs4 xs5 hc1).2.2.1 = [PA (sOf i (lenWord c i xt0) (View.readAt (Elt F) arg15.view r15.toLoadRect (harg15.unread xs0)) (kdOf arg6 harg6 arg9 harg9 arg10 harg10 arg11 harg11 arg16 x3 x6 x7 x8)) (View.readAt (Elt F) arg19.view r19.toLoadRect (harg19.unread xs4)) (ldScale arg8 harg8 x5) (vdOf arg7 harg7 arg12 harg12 arg17 x4 x9) (View.readAt (Elt F) arg18.view r18.toLoadRect (harg18.unread xs3))] := by
  sl_kernel_rfl

theorem runE_m (hc0 : ¬cond0_0 i) (hc2 : cond0_2 i) (xs0 : Vec F S128x1024 .bf16) (xs3 : Vec F S16x1024 .f32) (xs4 : Vec F S128x128 .f32) (xs5 : Vec F S128x128 .f32) (hc1 : cond0_1 i (lenWord c i xt0)) :
    (kernelRun0_E c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc2 x0 x1 x2 x3 x4 x5 x6 x7 x8 x9 x10 xt0 xs0 xs3 xs4 xs5 hc1).2.2.2.1 = [PM (sOf i (lenWord c i xt0) (View.readAt (Elt F) arg15.view r15.toLoadRect (harg15.unread xs0)) (kdOf arg6 harg6 arg9 harg9 arg10 harg10 arg11 harg11 arg16 x3 x6 x7 x8)) (View.readAt (Elt F) arg19.view r19.toLoadRect (harg19.unread xs4))] := by
  sl_kernel_rfl

theorem runE_l (hc0 : ¬cond0_0 i) (hc2 : cond0_2 i) (xs0 : Vec F S128x1024 .bf16) (xs3 : Vec F S16x1024 .f32) (xs4 : Vec F S128x128 .f32) (xs5 : Vec F S128x128 .f32) (hc1 : cond0_1 i (lenWord c i xt0)) :
    (kernelRun0_E c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc2 x0 x1 x2 x3 x4 x5 x6 x7 x8 x9 x10 xt0 xs0 xs3 xs4 xs5 hc1).2.2.2.2.1 = [PL (sOf i (lenWord c i xt0) (View.readAt (Elt F) arg15.view r15.toLoadRect (harg15.unread xs0)) (kdOf arg6 harg6 arg9 harg9 arg10 harg10 arg11 harg11 arg16 x3 x6 x7 x8)) (View.readAt (Elt F) arg19.view r19.toLoadRect (harg19.unread xs4)) (View.readAt (Elt F) arg20.view r19.toLoadRect (harg20.unread xs5))] := by
  sl_kernel_rfl

theorem runF_out (hc0 : ¬cond0_0 i) (hc2 : cond0_2 i) (xs0 : Vec F S128x1024 .bf16) (xs3 : Vec F S16x1024 .f32) (xs4 : Vec F S128x128 .f32) (xs5 : Vec F S128x128 .f32) (hc1 : ¬cond0_1 i (lenWord c i xt0)) :
    (kernelRun0_F c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc2 x0 x1 x2 x3 x4 x5 x6 x7 x8 x9 x10 xt0 xs0 xs3 xs4 xs5 hc1).1 = [⟨r14, finish (View.readAt (Elt F) arg18.view r18.toLoadRect (harg18.unread xs3)) (View.readAt (Elt F) arg20.view r19.toLoadRect (harg20.unread xs5))⟩] := by
  sl_kernel_rfl

end Cert.KernelIdeal.Step
-- ==== Proof.Heads.lean ====
/-
  The head a row or a column belongs to, as the kernel computes it in integer words.
-/
module

public import proofs.«01_k».proof.Proof.Step
public import Idealize.ShloMosaic.Lib.Pointwise

@[expose] public section

set_option maxRecDepth 16384

noncomputable section

namespace Cert.KernelIdeal.Step

open Idealize.ShloMosaic Cert.KernelIdeal Cert.KernelIdeal.Gen

theorem headLane_apply (q : Fin 16) (j : Fin 128) : headLane (ix2 q j) = BitVec.ofNat 32 (j.val / 16) := by
  pointwise [headLane, k0_pay1048, k0_pay1049, k0_pay1047, k0_pay1046]
  revert j
  decide +kernel

theorem headCol_apply (q : Fin 16) (j : Fin 1024) : k0_pay20 (ix2 q j) = BitVec.ofNat 32 (j.val % 128 / 16) := by
  pointwise [k0_pay20]
  revert j
  decide +kernel

theorem headRow_apply (q : Fin 128) (j : Fin 1024) : k0_pay5 (ix2 q j) = BitVec.ofNat 32 (q.val / 16) := by
  pointwise [k0_pay5]
  revert q
  decide +kernel

end Cert.KernelIdeal.Step
-- ==== Proof.StepValue.lean ====
/-
  The vectors of one grid point, read at an index over the extended reals.
-/
module

public import proofs.«01_k».proof.Proof.Heads

@[expose] public section

set_option maxRecDepth 16384

noncomputable section

namespace Cert.KernelIdeal.Step

open Idealize.ShloMosaic Cert.KernelIdeal Cert.KernelIdeal.Gen

/-- Row `q` of head `h` among the 128 query rows. -/
def hrow (h : Fin 8) (q : Fin 16) : Fin 128 := ⟨16 * h.val + q.val, by omega⟩

/-- The head of a column. -/
def hcol (j : Fin 1024) : Fin 8 := ⟨j.val % 128 / 16, by omega⟩

/-- The lane of a column. -/
def lcol (j : Fin 1024) : Fin 128 := ⟨j.val % 128, by omega⟩

/-- A chain of eight selects by head. -/
theorem pick {α : Type} (h : Fin 8) (n : Nat) (hn : n = h.val) (f : Fin 8 → α) (y0 y1 y2 y3 y4 y5 y6 y7 : α) (e0 : y0 = f 0) (e1 : y1 = f 1)
    (e2 : y2 = f 2) (e3 : y3 = f 3) (e4 : y4 = f 4) (e5 : y5 = f 5) (e6 : y6 = f 6) (e7 : y7 = f 7) :
    Scalar.select (IntOp.cmpi .eq (BitVec.ofNat 32 n) 7#32) y7 (Scalar.select (IntOp.cmpi .eq (BitVec.ofNat 32 n) 6#32) y6
    (Scalar.select (IntOp.cmpi .eq (BitVec.ofNat 32 n) 5#32) y5 (Scalar.select (IntOp.cmpi .eq (BitVec.ofNat 32 n) 4#32) y4
    (Scalar.select (IntOp.cmpi .eq (BitVec.ofNat 32 n) 3#32) y3 (Scalar.select (IntOp.cmpi .eq (BitVec.ofNat 32 n) 2#32) y2
    (Scalar.select (IntOp.cmpi .eq (BitVec.ofNat 32 n) 1#32) y1 y0)))))) = f h := by
  subst hn e0 e1 e2 e3 e4 e5 e6 e7
  fin_cases h <;> rfl

theorem hrow_0 (q : Fin 16) : (⟨q.val, by omega⟩ : Fin 128) = hrow 0 q := Fin.ext (Nat.zero_add _).symm
theorem hrow_1 (q : Fin 16) : (⟨16 + q.val, by omega⟩ : Fin 128) = hrow 1 q := Fin.ext rfl
theorem hrow_2 (q : Fin 16) : (⟨32 + q.val, by omega⟩ : Fin 128) = hrow 2 q := Fin.ext rfl
theorem hrow_3 (q : Fin 16) : (⟨48 + q.val, by omega⟩ : Fin 128) = hrow 3 q := Fin.ext rfl
theorem hrow_4 (q : Fin 16) : (⟨64 + q.val, by omega⟩ : Fin 128) = hrow 4 q := Fin.ext rfl
theorem hrow_5 (q : Fin 16) : (⟨80 + q.val, by omega⟩ : Fin 128) = hrow 5 q := Fin.ext rfl
theorem hrow_6 (q : Fin 16) : (⟨96 + q.val, by omega⟩ : Fin 128) = hrow 6 q := Fin.ext rfl
theorem hrow_7 (q : Fin 16) : (⟨112 + q.val, by omega⟩ : Fin 128) = hrow 7 q := Fin.ext rfl

/-- A select by a signed comparison. -/
theorem select_slt {α : Type} (a b : BitVec 32) (x y : α) :
    Scalar.select (IntOp.cmpi .slt a b) x y = if a.slt b then x else y := by
  cases h : a.slt b <;> simp [Scalar.select, IntOp.cmpi, h]

/-- A select on the first lane. -/
theorem select_zero {α : Type} (l : Fin 128) (x y : α) :
    Scalar.select (IntOp.cmpi .eq (BitVec.ofNat 32 l.val) 0#32) x y = if l.val = 0 then x else y := by
  have h : IntOp.cmpi .eq (BitVec.ofNat 32 l.val) 0#32 = if l.val = 0 then 1#1 else 0#1 := by revert l; decide +kernel
  rw [h]
  split_ifs <;> rfl

/-- A select of the keys not after the row's own position. -/
theorem select_causal {α : Type} (r : Fin 128) (j : Fin 16) (x y : α) :
    Scalar.select
      (IntOp.cmpi .sle (BitVec.ofNat 32 j.val)
        (Scalar.select
          (IntOp.andi
            (IntOp.xori
              (IntOp.cmpi .slt (IntOp.remsi .vector (BitVec.ofNat 32 r.val) (Scalar.select (Scalar.cmpi .eq 4#32 0#32) 1#32 4#32)) 0#32)
              (Scalar.cmpi .slt (Scalar.select (Scalar.cmpi .eq 4#32 0#32) 1#32 4#32) 0#32))
            (IntOp.cmpi .ne (IntOp.remsi .vector (BitVec.ofNat 32 r.val) (Scalar.select (Scalar.cmpi .eq 4#32 0#32) 1#32 4#32)) 0#32))
          (IntOp.addi (IntOp.remsi .vector (BitVec.ofNat 32 r.val) (Scalar.select (Scalar.cmpi .eq 4#32 0#32) 1#32 4#32))
            (Scalar.select (Scalar.cmpi .eq 4#32 0#32) 1#32 4#32))
          (IntOp.remsi .vector (BitVec.ofNat 32 r.val) (Scalar.select (Scalar.cmpi .eq 4#32 0#32) 1#32 4#32)))) x y
      = if j.val ≤ r.val % 4 then x else y := by
  have h : ∀ (r : Fin 128) (j : Fin 16), (IntOp.cmpi .sle (BitVec.ofNat 32 j.val)
        (Scalar.select
          (IntOp.andi
            (IntOp.xori
              (IntOp.cmpi .slt (IntOp.remsi .vector (BitVec.ofNat 32 r.val) (Scalar.select (Scalar.cmpi .eq 4#32 0#32) 1#32 4#32)) 0#32)
              (Scalar.cmpi .slt (Scalar.select (Scalar.cmpi .eq 4#32 0#32) 1#32 4#32) 0#32))
            (IntOp.cmpi .ne (IntOp.remsi .vector (BitVec.ofNat 32 r.val) (Scalar.select (Scalar.cmpi .eq 4#32 0#32) 1#32 4#32)) 0#32))
          (IntOp.addi (IntOp.remsi .vector (BitVec.ofNat 32 r.val) (Scalar.select (Scalar.cmpi .eq 4#32 0#32) 1#32 4#32))
            (Scalar.select (Scalar.cmpi .eq 4#32 0#32) 1#32 4#32))
          (IntOp.remsi .vector (BitVec.ofNat 32 r.val) (Scalar.select (Scalar.cmpi .eq 4#32 0#32) 1#32 4#32))))
      = if j.val ≤ r.val % 4 then 1#1 else 0#1 := by decide +kernel
  rw [h r j]
  split_ifs <;> rfl

/-- A sum over 512 in four blocks of 128. -/
theorem sum_blocks {M : Type} [AddCommMonoid M] (f : Fin 512 → M) :
    ∑ x, f x = ∑ c : Fin 4, ∑ l : Fin 128, f ⟨128 * c.val + l.val, by omega⟩ := by
  rw [← Fintype.sum_prod_type', ← (finProdFinEquiv (m := 4) (n := 128)).sum_comp]
  refine Finset.sum_congr rfl fun x _ => congrArg f (Fin.ext ?_)
  exact Nat.add_comm _ _

/-- The head of a column, as the query rows are masked. -/
theorem headQ_apply (q : Fin 128) (j : Fin 1024) :
    (let c : BitVec 32 := Scalar.select (IntOp.andi (IntOp.xori (k0_pay8 (ix2 q j)) (k0_pay9 (ix2 q j))) (k0_pay7 (ix2 q j)))
      (IntOp.addi (k0_pay6 (ix2 q j)) 128#32) (k0_pay6 (ix2 q j))
     c) = BitVec.ofNat 32 (j.val % 128) := by
  pointwise [k0_pay6, k0_pay7, k0_pay8, k0_pay9]
  revert j
  decide +kernel

/-- The head of a lane, as the query rows are masked. -/
theorem headDiv_apply (l : Fin 128) :
    Scalar.select
          (IntOp.andi
            (IntOp.cmpi .ne
              (IntOp.subi (BitVec.setWidth 32 (IntOp.cmpi .sgt (BitVec.ofNat 32 l.val) 0#32)) (BitVec.setWidth 32 (IntOp.cmpi .slt (BitVec.ofNat 32 l.val) 0#32)))
              (Scalar.subi (Scalar.extui (Scalar.cmpi .sgt 16#32 0#32)) (Scalar.extui (Scalar.cmpi .slt 16#32 0#32))))
            (IntOp.cmpi .ne (IntOp.remsi .vector (BitVec.ofNat 32 l.val) 16#32) 0#32))
          (IntOp.subi (IntOp.divsi .vector (BitVec.ofNat 32 l.val) 16#32) 1#32)
          (IntOp.divsi .vector (BitVec.ofNat 32 l.val) 16#32) = BitVec.ofNat 32 (l.val / 16) := by
  revert l
  decide +kernel

/-- A select of the row's own head. -/
theorem select_head {α : Type} (a b : Fin 8) (x y : α) :
    Scalar.select (IntOp.cmpi .eq (BitVec.ofNat 32 a.val) (BitVec.ofNat 32 b.val)) x y = if a.val = b.val then x else y := by
  have h : IntOp.cmpi .eq (BitVec.ofNat 32 a.val) (BitVec.ofNat 32 b.val) = if a.val = b.val then 1#1 else 0#1 := by
    revert a b; decide +kernel
  rw [h]
  split_ifs <;> rfl

theorem initQ_apply (x0 : Vec Ideal S1x128x128 .bf16) (x10 : Vec Ideal S128x1024 .bf16) (r : Fin 128) (j : Fin 1024) :
    initQ x0 x10 (ix2 r j) = if r.val / 16 = j.val % 128 / 16 then ∑ k : Fin 128, x0 (ix3 0 r k) * x10 (ix2 k j) else 0 := by
  pointwise [initQ, k0_pay11, k0_pay10, headRow_apply, headQ_apply, k0_pay4]
  exact (congrArg (fun w => Scalar.select (IntOp.cmpi .eq (BitVec.ofNat 32 (r.val / 16)) w) (∑ k : Fin 128, x0 (ix3 0 r k) * x10 (ix2 k j)) 0)
    (headDiv_apply (lcol j))).trans (select_head ⟨r.val / 16, by omega⟩ (hcol j) _ _)

theorem masked_apply (s : FVec Ideal S128x16 .f32) (r : Fin 128) (j : Fin 16) :
    k0_pay13 s rows 4#32 (ix2 r j) = if j.val ≤ r.val % 4 then s (ix2 r j) else Ideal.ofBits .f32 0xFF800000#32 := by
  pointwise [k0_pay13, rows]
  exact select_causal r j _ _

theorem newScores_apply (x0 : Vec Ideal S1x128x128 .bf16) (x10 : Vec Ideal S128x1024 .bf16) (x1 : Vec Ideal S1x16x1024 .bf16) (r : Fin 128) (j : Fin 16) :
    newScores x0 x10 x1 (ix2 r j) = (∑ k : Fin 1024, initQ x0 x10 (ix2 r k) * x1 (ix3 0 j k)) * Ideal.ofBits .f32 0x3DB504F3#32 := by
  pointwise [newScores, initQ, k0_pay11, k0_pay12]

theorem initM_apply (x0 : Vec Ideal S1x128x128 .bf16) (x10 : Vec Ideal S128x1024 .bf16) (x1 : Vec Ideal S1x16x1024 .bf16) (r l : Fin 128) :
    initM x0 x10 x1 (ix2 r l) = Finset.univ.fold max (Ideal.ofBits .f32 0xFF800000#32) fun j : Fin 16 => k0_pay13 (newScores x0 x10 x1) rows 4#32 (ix2 r j) := by
  pointwise [initM, k0_pay16, k0_pay14]

theorem initL_apply (x0 : Vec Ideal S1x128x128 .bf16) (x10 : Vec Ideal S128x1024 .bf16) (x1 : Vec Ideal S1x16x1024 .bf16) (r l : Fin 128) :
    initL x0 x10 x1 (ix2 r l) = if l.val = 0 then ∑ j : Fin 16, Ideal.exp (k0_pay13 (newScores x0 x10 x1) rows 4#32 (ix2 r j) - initM x0 x10 x1 (ix2 r l)) else 0 := by
  pointwise [initL, k0_pay17, k0_pay15, initM, k0_pay16, k0_pay14]
  exact select_zero l _ _

theorem initAcc_apply (x0 : Vec Ideal S1x128x128 .bf16) (x10 : Vec Ideal S128x1024 .bf16) (x1 x2 : Vec Ideal S1x16x1024 .bf16) (q : Fin 16) (k : Fin 1024) :
    initAcc x0 x10 x1 x2 (ix2 q k) = ∑ j : Fin 16, Ideal.exp (k0_pay13 (newScores x0 x10 x1) rows 4#32 (ix2 (hrow (hcol k) q) j) - initM x0 x10 x1 (ix2 (hrow (hcol k) q) (lcol k))) * x2 (ix3 0 j k) := by
  pointwise [initAcc, k0_pay1, k0_pay18, k0_pay19, k0_pay15, initM, k0_pay16, k0_pay14, headCol_apply]
  simp only [hrow_0, hrow_1, hrow_2, hrow_3, hrow_4, hrow_5, hrow_6, hrow_7]
  exact pick (hcol k) _ rfl (fun h => ∑ j : Fin 16, Ideal.exp (k0_pay13 (newScores x0 x10 x1) rows 4#32 (ix2 (hrow h q) j) -
    Finset.univ.fold max (Ideal.ofBits .f32 0xFF800000#32) fun i : Fin 16 => k0_pay13 (newScores x0 x10 x1) rows 4#32 (ix2 (hrow h q) i)) * x2 (ix3 0 j k)) _ _ _ _ _ _ _ _ rfl rfl rfl rfl rfl rfl rfl rfl

theorem scores_apply (a n : BitVec 32) (q : Vec Ideal S128x1024 .bf16) (kd : Vec Ideal S512x1024 .bf16) (r : Fin 128) (j : Fin 512) :
    scores a n q kd (ix2 r j) = if (a * 512#32 + BitVec.ofNat 32 j.val).slt n then
      (∑ k : Fin 1024, q (ix2 r k) * kd (ix2 j k)) * Ideal.ofBits .f32 0x3DB504F3#32 else Ideal.ofBits .f32 0xFF800000#32 := by
  pointwise [scores, k0_pay1016]
  exact select_slt _ _ _ _

theorem stepM_apply (s : FVec Ideal S128x512 .f32) (m : Vec Ideal S128x128 .f32) (r l : Fin 128) :
    stepM s m (ix2 r l) = max (m (ix2 r l)) (Finset.univ.fold max (Ideal.ofBits .f32 0xFF800000#32) fun j : Fin 512 => s (ix2 r j)) := by
  pointwise [stepM]

theorem weights_apply (c : Fin 4) (s : FVec Ideal S128x512 .f32) (m' : FVec Ideal S128x128 .f32) (r l : Fin 128) :
    weights c s m' (ix2 r l) = Ideal.exp (s (ix2 r ⟨128 * c.val + l.val, by omega⟩) - m' (ix2 r l)) := by
  fin_cases c <;> pointwise [weights]

theorem stepL_apply (s : FVec Ideal S128x512 .f32) (m m' l : FVec Ideal S128x128 .f32) (r k : Fin 128) :
    stepL s m m' l (ix2 r k) = l (ix2 r k) * Ideal.exp (m (ix2 r k) - m' (ix2 r k)) + ∑ c : Fin 4, weights c s m' (ix2 r k) := by
  pointwise [stepL, Fin.sum_univ_four, ← add_assoc]

theorem scaled_apply (c : Fin 4) (s : FVec Ideal S128x512 .f32) (m' : FVec Ideal S128x128 .f32) (vs : Vec Ideal S1x8x128 .f32) (r l : Fin 128) :
    scaled c s m' vs (ix2 r l) = weights c s m' (ix2 r l) * vs (ix3 0 ⟨r.val / 16, by omega⟩ l) := by
  pointwise [scaled]

theorem ownLane_apply (x : FVec Ideal S128x128 .f32) (q : Fin 16) (l : Fin 128) :
    ownLane x (ix2 q l) = x (ix2 (hrow ⟨l.val / 16, by omega⟩ q) l) := by
  pointwise [ownLane, headLane_apply]
  simp only [hrow_0, hrow_1, hrow_2, hrow_3, hrow_4, hrow_5, hrow_6, hrow_7]
  exact pick ⟨l.val / 16, by omega⟩ _ rfl (fun h => x (ix2 (hrow h q) l)) _ _ _ _ _ _ _ _ rfl rfl rfl rfl rfl rfl rfl rfl

theorem ownCol_apply (x : FVec Ideal S128x1024 .f32) (q : Fin 16) (k : Fin 1024) :
    ownCol x (ix2 q k) = x (ix2 (hrow (hcol k) q) k) := by
  pointwise [ownCol, headCol_apply]
  simp only [hrow_0, hrow_1, hrow_2, hrow_3, hrow_4, hrow_5, hrow_6, hrow_7]
  exact pick (hcol k) _ rfl (fun h => x (ix2 (hrow h q) k)) _ _ _ _ _ _ _ _ rfl rfl rfl rfl rfl rfl rfl rfl

theorem repeated_apply (x : FVec Ideal S16x128 .f32) (q : Fin 16) (k : Fin 1024) :
    repeated x (ix2 q k) = x (ix2 q (lcol k)) := by
  pointwise [repeated]
  have hk := k.isLt
  have e : lcol k = ⟨k.val % 128, by omega⟩ := rfl
  rw [e]
  split_ifs <;> (congr 2; apply Fin.ext; simp only; omega)

theorem weighted_apply (p0 p1 p2 p3 : FVec Ideal S128x128 .bf16) (vd : Vec Ideal S512x1024 .bf16) (r : Fin 128) (k : Fin 1024) :
    weighted p0 p1 p2 p3 vd (ix2 r k) = ∑ c : Fin 4, ∑ l : Fin 128, (![p0, p1, p2, p3] c) (ix2 r l) * vd (ix2 ⟨128 * c.val + l.val, by omega⟩ k) := by
  pointwise [weighted]
  rw [sum_blocks, Fin.sum_univ_four, Fin.sum_univ_four]
  refine congrArg₂ (· + ·) (congrArg₂ (· + ·) (congrArg₂ (· + ·) ?_ ?_) ?_) ?_ <;>
    refine Finset.sum_congr rfl fun l _ => congrArg (· * _) ?_
  · rw [dif_pos (show _ < _ by simp only [Fin.val_zero]; omega)]
    exact congrArg (fun z => p0 (ix2 r z)) (Fin.ext (Nat.zero_add _))
  · rw [dif_neg (show ¬_ by simp only [Fin.val_one]; omega), dif_pos (show _ < _ by simp only [Fin.val_one]; omega)]
    exact congrArg (fun z => p1 (ix2 r z)) (Fin.ext (show 128 * 1 + l.val - 128 = l.val by omega))
  · rw [dif_neg (show ¬_ by simp only [Fin.val_two]; omega), dif_neg (show ¬_ by simp only [Fin.val_two]; omega),
      dif_pos (show _ < _ by simp only [Fin.val_two]; omega)]
    exact congrArg (fun z => p2 (ix2 r z)) (Fin.ext (show 128 * 2 + l.val - 128 - 128 = l.val by omega))
  · have e : ((3 : Fin 4) : ℕ) = 3 := rfl
    rw [dif_neg (show ¬_ by simp only [e]; omega), dif_neg (show ¬_ by simp only [e]; omega), dif_neg (show ¬_ by simp only [e]; omega)]
    exact congrArg (fun z => p3 (ix2 r z)) (Fin.ext (show 128 * 3 + l.val - 128 - 128 - 128 = l.val by omega))

theorem finish_apply (acc : Vec Ideal S16x1024 .f32) (l : Vec Ideal S128x128 .f32) (q : Fin 16) (k : Fin 1024) :
    finish acc l (ix3 0 q k) = acc (ix2 q k) * Ideal.div 1 (∑ j : Fin 128, l (ix2 (hrow (hcol k) q) j)) := by
  pointwise [finish, repeated_apply, ownLane_apply, k0_pay1045]
  rfl

end Cert.KernelIdeal.Step
-- ==== Proof.TileValue.lean ====
/-
  The decoded keys and values of a tile, read at an index.
-/
module

public import proofs.«01_k».proof.Proof.Tile
public import Idealize.ShloMosaic.Lib.Pointwise
public import Idealize.ShloMosaic.Lib.BitcastFour

@[expose] public section

set_option maxRecDepth 16384

noncomputable section

namespace Cert.KernelIdeal.Tile

open Idealize.ShloMosaic Cert.KernelIdeal Cert.KernelIdeal.Gen

variable {F : FTy → Type} [FloatOps F]

/-- Nibble `n` of a word, by way of its half, is a nibble of the byte that holds it. -/
theorem nibble_eq (W : BitVec 32) (b : BitVec 8) (n : Fin 8) (H : ∀ q < 8, W.getLsbD (8 * (n.val / 2) + q) = b.getLsbD q) :
    IntOp.andi (IntOp.shrui .vector (BitVec.signExtend 32 (BitVec.setWidth 16 (bif Nat.ble 4 n.val then IntOp.shrui .vector W 16#32 else W)))
      (BitVec.ofNat 32 (4 * (n.val % 4)))) 15#32 = (b.setWidth 32 >>> (4 * (n.val % 2))) &&& 15#32 := by
  have h0 := H 0 (by omega)
  have h1 := H 1 (by omega)
  have h2 := H 2 (by omega)
  have h3 := H 3 (by omega)
  have h4 := H 4 (by omega)
  have h5 := H 5 (by omega)
  have h6 := H 6 (by omega)
  have h7 := H 7 (by omega)
  clear H
  rw [Bool.cond_eq_ite]
  simp only [Nat.ble_eq]
  apply BitVec.eq_of_getLsbD_eq
  intro i hi
  have h15 : (15#32 : BitVec 32).getLsbD i = decide (i < 4) := by
    interval_cases i <;> rfl
  rw [IntOp.andi, BitVec.getLsbD_and, BitVec.getLsbD_and, h15]
  by_cases h : i < 4
  · fin_cases n <;> (simp only [] at h0 h1 h2 h3 h4 h5 h6 h7) <;> interval_cases i <;>
      simp_all [IntOp.shrui, BitVec.getElem_signExtend]
  · simp [h]

theorem code_apply (w : IVec S128x512 32) (c : Fin 4) (g n : Fin 8) (i : Fin 16) (l : Fin 128) :
    code w c g n (ix2 i l) = IntOp.andi (IntOp.shrui .vector (BitVec.signExtend 32 (BitVec.setWidth 16
      (bif Nat.ble 4 n.val then IntOp.shrui .vector (w (ix2 l ⟨128 * c.val + (16 * g.val + i.val), by omega⟩)) 16#32
        else w (ix2 l ⟨128 * c.val + (16 * g.val + i.val), by omega⟩)))) (BitVec.ofNat 32 (4 * (n.val % 4)))) 15#32 := by
  cases e : Nat.ble 4 n.val
  · pointwise [code, group, half, e, cond_false]
  · pointwise [code, group, half, e, cond_true]

theorem look_apply (t : Vec F S1x16x128 .i16) (x : IVec S16x128 32) (i : Fin 16) (l : Fin 128) :
    look (F := F) t x (ix2 i l) = t (ix3 0 ⟨(x (ix2 i l)).toNat % 16, by omega⟩ l) := by
  pointwise [look, dynamicGather_apply_norm]

theorem joined_apply (a : Vec F S1x8x1x128 .i32) (b : Vec F S1x8x1x128 .i16) (r l : Fin 128) :
    joined (F := F) a b (ix2 r l) = a (ix4 0 ⟨r.val / 16, by omega⟩ 0 l) ||| ((b (ix4 0 ⟨r.val / 16, by omega⟩ 0 l) : BitVec 16).signExtend 32 <<< 16) := by
  pointwise [joined]
  rfl

theorem half_group_lo (o : IVec S128x128 32) (g : Fin 8) (i : Fin 16) (l : Fin 128) :
    group g (half false o) (ix2 i l) = (o (ix2 l ⟨16 * g.val + i.val, by omega⟩)).setWidth 16 := by
  pointwise [group, half, cond_false]

theorem half_group_hi (o : IVec S128x128 32) (g : Fin 8) (i : Fin 16) (l : Fin 128) :
    group g (half true o) (ix2 i l) = (o (ix2 l ⟨16 * g.val + i.val, by omega⟩) >>> 16).setWidth 16 := by
  pointwise [group, half, cond_true]
  rfl

theorem chan_apply (n : Fin 8) (i : Fin 16) (l : Fin 128) : chan n (ix2 i l) = BitVec.ofNat 16 ((l.val % 16) * 8 + n.val) := by
  pointwise [chan, k0_pay23, k0_pay22, k0_pay21]
  revert n l
  decide +kernel

theorem words_apply (v : Vec F S1x8x64x512 .i8) (r : Fin 128) (j : Fin 512) (k : Fin 4) (q : Nat) (hq : q < 8) :
    (words (F := F) v (ix2 r j)).getLsbD (8 * k.val + q) = (v (ix4 0 ⟨r.val / 16, by omega⟩ ⟨4 * (r.val % 16) + k.val, by omega⟩ j) : BitVec 8).getLsbD q := by
  unfold words
  have e : (ix2 r j : S128x512.Idx) = ValueIdx.ix2 r j := rfl
  rw [e, bitcast_8_32_getLsbD_ix2 _ _ r j _ (by omega) ⟨4 * r.val + k.val, by omega⟩ (by simp only; omega)]
  have e2 : (ValueIdx.ix2 (⟨4 * r.val + k.val, by omega⟩ : Fin 512) j : S512x512.Idx) = ix2 ⟨4 * r.val + k.val, by omega⟩ j := rfl
  rw [e2]
  pointwise
  have e3 : (8 * k.val + q) % 8 = q := by omega
  rw [e3]
  congr 3 <;> (apply Fin.ext; simp only; omega)

theorem code_words (v : Vec F S1x8x64x512 .i8) (c : Fin 4) (g n : Fin 8) (i : Fin 16) (l : Fin 128) :
    code (words (F := F) v) c g n (ix2 i l) = ((v (ix4 0 ⟨l.val / 16, by omega⟩ ⟨4 * (l.val % 16) + n.val / 2, by omega⟩
      ⟨128 * c.val + (16 * g.val + i.val), by omega⟩) : BitVec 8).setWidth 32 >>> (4 * (n.val % 2))) &&& 15#32 := by
  rw [code_apply]
  exact nibble_eq _ _ n fun q hq => words_apply v l _ ⟨n.val / 2, by omega⟩ q hq

end Cert.KernelIdeal.Tile
-- ==== Proof.TileG.lean ====
/-
  A decoded tile read back whole: every column of every token row, from the windows' contents.
-/
module

public import proofs.«01_k».proof.Proof.TileValue
public import Idealize.ShloMosaic.Lib.Pipeline.Value

@[expose] public section

set_option maxRecDepth 16384

noncomputable section

namespace Cert.KernelIdeal.Tile

open Idealize.ShloMosaic Cert.KernelIdeal Cert.KernelIdeal.Gen

/-- The 4-bit code of nibble `n` of word `w` of head `h` of token `j`. -/
def codeOf (v : Vec Ideal S1x8x64x512 .i8) (n h : Fin 8) (w : Fin 16) (j : Fin 512) : BitVec 32 :=
  ((v (ix4 0 h ⟨4 * w.val + n.val / 2, by omega⟩ j) : BitVec 8).setWidth 32 >>> (4 * (n.val % 2))) &&& 15#32

/-- One outlier put over what was decoded before it. -/
def put (o : BitVec 32) (ch : BitVec 16) (old : BitVec 16) : BitVec 16 :=
  if o.setWidth 16 = ch then (o >>> 16).setWidth 16 else old

/-- The table word of a code. -/
def wordOf (t : Vec Ideal S8x16x128 .i16) (v : Vec Ideal S1x8x64x512 .i8) (j : Fin 512) (n : Fin 8) (l : Fin 128) : BitVec 16 :=
  t (ix3 n ⟨(codeOf v n ⟨l.val / 16, by omega⟩ ⟨l.val % 16, by omega⟩ j).toNat % 16, by omega⟩ l)

/-- Outlier `o` of head `h`, token `j`: its channel below, its value's bits above. -/
def outOf (x6 : Vec Ideal S1x8x4x512 .i32) (x7 : Vec Ideal S1x8x4x512 .i16) (o : Fin 4) (h : Fin 8) (j : Fin 512) : BitVec 32 :=
  x6 (ix4 0 h o j) ||| ((x7 (ix4 0 h o j) : BitVec 16).signExtend 32 <<< 16)

/-- A decoded value. -/
def valG (x4 : Vec Ideal S1x8x64x512 .i8) (x9 : Vec Ideal S8x16x128 .i16) (j : Fin 512) (n : Fin 8) (l : Fin 128) : EReal :=
  Ideal.ofBits .bf16 (wordOf x9 x4 j n l)

/-- A decoded key. -/
def keyG (x3 : Vec Ideal S1x8x64x512 .i8) (x6 : Vec Ideal S1x8x4x512 .i32) (x7 : Vec Ideal S1x8x4x512 .i16) (x8 : Vec Ideal S8x16x128 .i16)
    (j : Fin 512) (n : Fin 8) (l : Fin 128) : EReal :=
  let h : Fin 8 := ⟨l.val / 16, by omega⟩
  let ch := BitVec.ofNat 16 ((l.val % 16) * 8 + n.val)
  Ideal.ofBits .bf16 (put (outOf x6 x7 3 h j) ch (put (outOf x6 x7 2 h j) ch (put (outOf x6 x7 1 h j) ch (put (outOf x6 x7 0 h j) ch
    (wordOf x8 x3 j n l)))))

theorem select_eq {w : Nat} {α : Type} (a b : BitVec w) (x y : α) :
    Scalar.select (IntOp.cmpi .eq a b) x y = if a = b then x else y := by
  by_cases h : a = b <;> simp [Scalar.select, IntOp.cmpi, h, beq_eq_false_iff_ne.mpr]

theorem over_apply (o : IVec S128x128 32) (g n : Fin 8) (old : IVec S16x128 16) (i : Fin 16) (l : Fin 128) :
    over o g n old (ix2 i l) = put (o (ix2 l ⟨16 * g.val + i.val, by omega⟩)) (BitVec.ofNat 16 ((l.val % 16) * 8 + n.val)) (old (ix2 i l)) := by
  unfold over put
  pointwise [half_group_lo, half_group_hi, chan_apply]
  exact select_eq _ _ _ _

/-- A list over every chunk, group and nibble reads back what its pieces hold. -/
theorem canon_pieces (w : Fin 4 → Fin 8 → Fin 8 → S16x128.Idx → EReal) (G : Fin 512 → Fin 8 → Fin 128 → EReal)
    (H : ∀ c g n i l, w c g n (ix2 i l) = G ⟨128 * c.val + (16 * g.val + i.val), by omega⟩ n l) (j : Fin 512) (k : Fin 1024) :
    View.canon (Val := Elt Ideal) (pieces (F := Ideal) fun c g n => ⟨Rect.unit ![128 * c.val + 16 * g.val, 128 * n.val] S16x128.size (inb_piece c g n), w c g n⟩)
      (ix2 j k) = G j ⟨k.val / 128, by omega⟩ ⟨k.val % 128, by omega⟩ := by
  have emb : ∀ (c : Fin 4) (g n : Fin 8) (i : Fin 16) (l : Fin 128),
      (Rect.unit (s := S512x1024) ![128 * c.val + 16 * g.val, 128 * n.val] S16x128.size (inb_piece c g n)).emb (ix2 i l)
        = ix2 ⟨128 * c.val + 16 * g.val + i.val, by omega⟩ ⟨128 * n.val + l.val, by omega⟩ := by
    intro c g n i l
    funext a
    apply Fin.ext
    match a with
    | 0 => exact congrArg (_ + ·) (Nat.one_mul i.val)
    | 1 => exact congrArg (_ + ·) (Nat.one_mul l.val)
  obtain ⟨Gv, hG⟩ : ∃ Gv : S512x1024.Idx → EReal, ∀ (j : Fin 512) (k : Fin 1024), Gv (ix2 j k)
      = G j ⟨k.val / 128, by omega⟩ ⟨k.val % 128, by omega⟩ :=
    ⟨fun y => G (y 0) ⟨(y 1).val / 128, Nat.div_lt_of_lt_mul (y 1).isLt⟩ ⟨(y 1).val % 128, Nat.mod_lt _ (by decide)⟩, fun _ _ => rfl⟩
  rw [← hG]
  refine View.canon_apply_of_pieces (Val := Elt Ideal) (e := .bf16) Gv _ ?_ _ ?_
  · intro p hp x
    obtain ⟨c, -, g, -, n, -, rfl⟩ : ∃ c, c ∈ _ ∧ ∃ g, g ∈ _ ∧ ∃ n, n ∈ _ ∧ _ = p := by
      simpa only [pieces, List.mem_flatMap, List.mem_map] using hp
    obtain ⟨i, l, rfl⟩ : ∃ (i : Fin 16) (l : Fin 128), x = ix2 i l := ⟨x 0, x 1, eq_ix2 x⟩
    refine (H c g n i l).trans (Eq.trans ?_ (congrArg Gv (emb c g n i l)).symm)
    rw [hG]
    congr 1
    · exact Fin.ext (show 128 * c.val + (16 * g.val + i.val) = 128 * c.val + 16 * g.val + i.val by omega)
    · exact Fin.ext (show n.val = (128 * n.val + l.val) / 128 by omega)
    · exact Fin.ext (show l.val = (128 * n.val + l.val) % 128 by omega)
  · refine ⟨_, List.mem_flatMap.mpr ⟨⟨j.val / 128, by omega⟩, ?_, List.mem_flatMap.mpr ⟨⟨j.val % 128 / 16, by omega⟩, ?_,
      List.mem_map.mpr ⟨⟨k.val / 128, by omega⟩, ?_, rfl⟩⟩⟩, (Rect.mem_set_unit (inb := inb_piece _ _ _)).mpr fun a => ?_⟩
    · generalize (⟨j.val / 128, by omega⟩ : Fin 4) = c
      revert c; decide
    · generalize (⟨j.val % 128 / 16, by omega⟩ : Fin 8) = c
      revert c; decide
    · generalize (⟨k.val / 128, by omega⟩ : Fin 8) = c
      revert c; decide
    · match a with
      | 0 => exact ⟨show 128 * (j.val / 128) + 16 * (j.val % 128 / 16) ≤ j.val by omega,
          show j.val < 128 * (j.val / 128) + 16 * (j.val % 128 / 16) + 16 by omega⟩
      | 1 => exact ⟨show 128 * (k.val / 128) ≤ k.val by omega, show k.val < 128 * (k.val / 128) + 128 by omega⟩

/-- A whole load of what a whole memref holds is its contents. -/
theorem readAt_whole {s : Shape} {e : EltTy} (arg : Memref sig .tc .vmem s e) (harg : arg.IsWhole) (x : Vec Ideal s e) (off : Fin s.rank → Nat)
    (h0 : ∀ a, off a = 0) (inb : ∀ a, off a + s.size a ≤ s.size a) :
    View.readAt (Elt Ideal) arg.view (Rect.unit (s := s) off s.size inb).toLoadRect (harg.unread x) = x := by
  funext y
  rw [Memref.IsWhole.readAt_unread]
  refine congrArg x (funext fun a => Fin.ext ?_)
  show off a + 1 * (y a).val = (y a).val
  rw [h0, Nat.one_mul, Nat.zero_add]

theorem outlier_idx (o c : Fin 4) (h : Fin 8) (m : Fin 128) :
    (Rect.unit (s := S1x8x4x512) ![0, 0, o.val, 128 * c.val] ![1, 8, 1, 128] (inb_outlier o c)).idx (ix4 0 h 0 m)
      = ix4 0 h o ⟨128 * c.val + m.val, by omega⟩ := by
  funext a
  apply Fin.ext
  match a with
  | 0 => rfl
  | 1 => exact (Nat.zero_add _).trans (Nat.one_mul h.val)
  | 2 => rfl
  | 3 => exact congrArg (_ + ·) (Nat.one_mul m.val)

theorem table_idx (n : Fin 8) (v : Fin 16) (l : Fin 128) :
    (Rect.unit (s := S8x16x128) ![n.val, 0, 0] ![1, 16, 128] (inb_table n)).idx (ix3 0 v l) = ix3 n v l := by
  funext a
  apply Fin.ext
  match a with
  | 0 => rfl
  | 1 => exact (Nat.zero_add _).trans (Nat.one_mul v.val)
  | 2 => exact (Nat.zero_add _).trans (Nat.one_mul l.val)

theorem keyList_apply (arg6 : Memref sig .tc .vmem S1x8x64x512 .i8) (harg6 : arg6.IsWhole)
    (arg9 : Memref sig .tc .vmem S1x8x4x512 .i32) (harg9 : arg9.IsWhole)
    (arg10 : Memref sig .tc .vmem S1x8x4x512 .i16) (harg10 : arg10.IsWhole)
    (arg11 : Memref sig .tc .vmem S8x16x128 .i16) (harg11 : arg11.IsWhole)
    (x3 : Vec Ideal S1x8x64x512 .i8) (x6 : Vec Ideal S1x8x4x512 .i32) (x7 : Vec Ideal S1x8x4x512 .i16) (x8 : Vec Ideal S8x16x128 .i16)
    (j : Fin 512) (k : Fin 1024) :
    View.canon (Val := Elt Ideal) (keyList arg6 harg6 arg9 harg9 arg10 harg10 arg11 harg11 x3 x6 x7 x8) (ix2 j k)
      = keyG x3 x6 x7 x8 j ⟨k.val / 128, by omega⟩ ⟨k.val % 128, by omega⟩ := by
  refine canon_pieces _ _ (fun c g n i l => ?_) j k
  rw [readAt_whole arg6 harg6 x3 _ (by intro a; fin_cases a <;> rfl)]
  unfold keyPiece
  rw [shapeCast_self]
  show Ideal.ofBits .bf16 _ = _
  simp only [over_apply, look_apply, code_words, joined_apply, Memref.IsWhole.readAt_unread]
  rw [outlier_idx, outlier_idx, outlier_idx, outlier_idx, table_idx]
  rfl

theorem valList_apply (arg7 : Memref sig .tc .vmem S1x8x64x512 .i8) (harg7 : arg7.IsWhole)
    (arg12 : Memref sig .tc .vmem S8x16x128 .i16) (harg12 : arg12.IsWhole)
    (x4 : Vec Ideal S1x8x64x512 .i8) (x9 : Vec Ideal S8x16x128 .i16) (j : Fin 512) (k : Fin 1024) :
    View.canon (Val := Elt Ideal) (valList arg7 harg7 arg12 harg12 x4 x9) (ix2 j k)
      = valG x4 x9 j ⟨k.val / 128, by omega⟩ ⟨k.val % 128, by omega⟩ := by
  refine canon_pieces _ _ (fun c g n i l => ?_) j k
  rw [readAt_whole arg7 harg7 x4 _ (by intro a; fin_cases a <;> rfl)]
  unfold valPiece
  rw [shapeCast_self]
  show Ideal.ofBits .bf16 _ = _
  simp only [look_apply, code_words, Memref.IsWhole.readAt_unread]
  rw [table_idx]
  rfl

end Cert.KernelIdeal.Tile
-- ==== Proof.CaseValue.lean ====
/-
  What each case leaves, as values: the scratch read back over the pieces a run of the case stores.
-/
module

public import proofs.«01_k».proof.Proof.Cases
public import proofs.«01_k».proof.Proof.StepValue
public import proofs.«01_k».proof.Proof.TileG
public import Idealize.ShloMosaic.Lib.VecWindow

@[expose] public section

set_option maxRecDepth 16384

noncomputable section

namespace Cert.KernelIdeal.Step

open Idealize.ShloMosaic Cert.KernelIdeal Cert.KernelIdeal.Gen

/-- The decoded tile of keys, by token and column. -/
def KD (x3 : Vec Ideal S1x8x64x512 .i8) (x6 : Vec Ideal S1x8x4x512 .i32) (x7 : Vec Ideal S1x8x4x512 .i16)
    (x8 : Vec Ideal S8x16x128 .i16) : Vec Ideal S512x1024 .bf16 := fun y =>
  Tile.keyG x3 x6 x7 x8 ⟨(y 0).val, (y 0).isLt⟩ ⟨(y 1).val / 128, Nat.div_lt_of_lt_mul (y 1).isLt⟩ ⟨(y 1).val % 128, Nat.mod_lt _ (by decide)⟩

/-- The decoded tile of values, by token and column. -/
def VD (x4 : Vec Ideal S1x8x64x512 .i8) (x9 : Vec Ideal S8x16x128 .i16) : Vec Ideal S512x1024 .bf16 := fun y =>
  Tile.valG x4 x9 ⟨(y 0).val, (y 0).isLt⟩ ⟨(y 1).val / 128, Nat.div_lt_of_lt_mul (y 1).isLt⟩ ⟨(y 1).val % 128, Nat.mod_lt _ (by decide)⟩

/-- The scales of each quarter of the tile. -/
def VS (x5 : Vec Ideal S1x8x512 .f32) (k : Fin 4) : Vec Ideal S1x8x128 .f32 := fun y =>
  x5 (ix3 0 ⟨(y 1).val, (y 1).isLt⟩ ⟨128 * k.val + (y 2).val, by have h : (y 2).val < 128 := (y 2).isLt; have := k.isLt; omega⟩)

variable (c : Dev nD) (i : grid0.Coords)
  (arg3 : Memref sig .tc .vmem S1x128x128 .bf16) (harg3 : arg3.IsWhole)
  (arg4 : Memref sig .tc .vmem S1x16x1024 .bf16) (harg4 : arg4.IsWhole)
  (arg5 : Memref sig .tc .vmem S1x16x1024 .bf16) (harg5 : arg5.IsWhole)
  (arg6 : Memref sig .tc .vmem S1x8x64x512 .i8) (harg6 : arg6.IsWhole)
  (arg7 : Memref sig .tc .vmem S1x8x64x512 .i8) (harg7 : arg7.IsWhole)
  (arg8 : Memref sig .tc .vmem S1x8x512 .f32) (harg8 : arg8.IsWhole)
  (arg9 : Memref sig .tc .vmem S1x8x4x512 .i32) (harg9 : arg9.IsWhole)
  (arg10 : Memref sig .tc .vmem S1x8x4x512 .i16) (harg10 : arg10.IsWhole)
  (arg11 : Memref sig .tc .vmem S8x16x128 .i16) (harg11 : arg11.IsWhole)
  (arg12 : Memref sig .tc .vmem S8x16x128 .i16) (harg12 : arg12.IsWhole)
  (arg13 : Memref sig .tc .vmem S128x1024 .bf16) (harg13 : arg13.IsWhole)
  (arg14 : Memref sig .tc .vmem S1x16x1024 .bf16) (harg14 : arg14.IsWhole)
  (arg15 : Memref sig .tc .vmem S128x1024 .bf16) (harg15 : arg15.IsWhole)
  (arg16 : Memref sig .tc .vmem S512x1024 .bf16) (harg16 : arg16.IsWhole)
  (arg17 : Memref sig .tc .vmem S512x1024 .bf16) (harg17 : arg17.IsWhole)
  (arg18 : Memref sig .tc .vmem S16x1024 .f32) (harg18 : arg18.IsWhole)
  (arg19 : Memref sig .tc .vmem S128x128 .f32) (harg19 : arg19.IsWhole)
  (arg20 : Memref sig .tc .vmem S128x128 .f32) (harg20 : arg20.IsWhole)
  (x0 : Vec Ideal S1x128x128 .bf16) (x1 : Vec Ideal S1x16x1024 .bf16) (x2 : Vec Ideal S1x16x1024 .bf16) (x3 : Vec Ideal S1x8x64x512 .i8)
  (x4 : Vec Ideal S1x8x64x512 .i8) (x5 : Vec Ideal S1x8x512 .f32) (x6 : Vec Ideal S1x8x4x512 .i32) (x7 : Vec Ideal S1x8x4x512 .i16)
  (x8 : Vec Ideal S8x16x128 .i16) (x9 : Vec Ideal S8x16x128 .i16) (x10 : Vec Ideal S128x1024 .bf16)
  (xt0 : TbBuf0 (F := Ideal) c tbM0_0)

theorem ldScale_eq : ldScale arg8 harg8 x5 = VS x5 := by
  funext k y
  unfold ldScale VS
  rw [Memref.IsWhole.readAt_unread]
  refine congrArg x5 (funext fun a => Fin.ext ?_)
  have h0 : (y 0).val = 0 := Nat.lt_one_iff.mp (y 0).isLt
  fin_cases a
  · show 0 + 1 * (y 0).val = 0
    omega
  · show 0 + 1 * (y 1).val = (y 1).val
    omega
  · show 128 * k.val + 1 * (y 2).val = 128 * k.val + (y 2).val
    omega

theorem ld0_eq : ld0 arg3 harg3 x0 = x0 := Tile.readAt_whole arg3 harg3 x0 _ (by intro a; fin_cases a <;> rfl) _
theorem ld10_eq : ld10 arg13 harg13 x10 = x10 := Tile.readAt_whole arg13 harg13 x10 _ (by intro a; fin_cases a <;> rfl) _
theorem ld1_eq : ld1 arg4 harg4 x1 = x1 := Tile.readAt_whole arg4 harg4 x1 _ (by intro a; fin_cases a <;> rfl) _
theorem ld2_eq : ld2 arg5 harg5 x2 = x2 := Tile.readAt_whole arg5 harg5 x2 _ (by intro a; fin_cases a <;> rfl) _

theorem kdOf_eq : kdOf arg6 harg6 arg9 harg9 arg10 harg10 arg11 harg11 arg16 x3 x6 x7 x8 = KD x3 x6 x7 x8 := by
  unfold kdOf
  rw [View.readCov_eq_canon']
  funext y
  have hy : (LoadRect.idx r16.toLoadRect y : S512x1024.Idx)
      = ix2 (⟨(y 0).val, (y 0).isLt⟩ : Fin 512) (⟨(y 1).val, (y 1).isLt⟩ : Fin 1024) := by
    funext a
    refine Fin.ext ?_
    fin_cases a
    · show 0 + 1 * (y 0).val = (y 0).val
      omega
    · show 0 + 1 * (y 1).val = (y 1).val
      omega
  show View.canon _ (LoadRect.idx r16.toLoadRect y) = _
  rw [hy, Tile.keyList_apply]
  rfl

theorem vdOf_eq : vdOf arg7 harg7 arg12 harg12 arg17 x4 x9 = VD x4 x9 := by
  unfold vdOf
  rw [View.readCov_eq_canon']
  funext y
  have hy : (LoadRect.idx r16.toLoadRect y : S512x1024.Idx)
      = ix2 (⟨(y 0).val, (y 0).isLt⟩ : Fin 512) (⟨(y 1).val, (y 1).isLt⟩ : Fin 1024) := by
    funext a
    refine Fin.ext ?_
    fin_cases a
    · show 0 + 1 * (y 0).val = (y 0).val
      omega
    · show 0 + 1 * (y 1).val = (y 1).val
      omega
  show View.canon _ (LoadRect.idx r16.toLoadRect y) = _
  rw [hy, Tile.valList_apply]
  rfl

theorem un15 (x : Vec Ideal S128x1024 .bf16) : View.readAt (Elt Ideal) arg15.view r15.toLoadRect (harg15.unread x) = x :=
  Tile.readAt_whole arg15 harg15 x _ (by intro a; fin_cases a <;> rfl) _
theorem un18 (x : Vec Ideal S16x1024 .f32) : View.readAt (Elt Ideal) arg18.view r18.toLoadRect (harg18.unread x) = x :=
  Tile.readAt_whole arg18 harg18 x _ (by intro a; fin_cases a <;> rfl) _
theorem un19 (x : Vec Ideal S128x128 .f32) : View.readAt (Elt Ideal) arg19.view r19.toLoadRect (harg19.unread x) = x :=
  Tile.readAt_whole arg19 harg19 x _ (by intro a; fin_cases a <;> rfl) _
theorem un20 (x : Vec Ideal S128x128 .f32) : View.readAt (Elt Ideal) arg20.view r19.toLoadRect (harg20.unread x) = x :=
  Tile.readAt_whole arg20 harg20 x _ (by intro a; fin_cases a <;> rfl) _

/-! ### Each case -/

theorem valA_q (hc0 : cond0_0 i) (hc2 : ¬cond0_2 i)  (hc1 : cond0_1 i (lenWord c i xt0)) :
    VS0_0.read (Elt Ideal) (VS0_0.writes (Elt Ideal) VS0_0.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc2 x0 x1 x2 x3 x4 x5 x6 x7 x8 x9 x10 xt0 hc1).2.1) = (initQ x0 x10) := by
  rw [runA_q]
  simp only [sOf, PM, PL, PA, LQ, LM0, LL0, LA0, ldScale_eq, ld0_eq, ld1_eq, ld2_eq, ld10_eq, kdOf_eq, vdOf_eq, un15, un18, un19, un20, View.readCov_cons_toLoadRect, shapeCast_self]
  exact View.read_writes_full _ _ _ _ _

theorem valA_acc (hc0 : cond0_0 i) (hc2 : ¬cond0_2 i)  (hc1 : cond0_1 i (lenWord c i xt0)) :
    VS0_3.read (Elt Ideal) (VS0_3.writes (Elt Ideal) VS0_3.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc2 x0 x1 x2 x3 x4 x5 x6 x7 x8 x9 x10 xt0 hc1).2.2.1) = (stepAcc (scores (BitVec.ofNat 32 (i 1).val) (lenWord c i xt0) (initQ x0 x10) (KD x3 x6 x7 x8)) (initM x0 x10 x1) (stepM (scores (BitVec.ofNat 32 (i 1).val) (lenWord c i xt0) (initQ x0 x10) (KD x3 x6 x7 x8)) (initM x0 x10 x1)) (VS x5) (VD x4 x9) (initAcc x0 x10 x1 x2)) := by
  rw [runA_acc]
  simp only [sOf, PM, PL, PA, LQ, LM0, LL0, LA0, ldScale_eq, ld0_eq, ld1_eq, ld2_eq, ld10_eq, kdOf_eq, vdOf_eq, un15, un18, un19, un20, View.readCov_cons_toLoadRect, shapeCast_self]
  exact View.read_writes_full _ _ _ _ _

theorem valA_m (hc0 : cond0_0 i) (hc2 : ¬cond0_2 i)  (hc1 : cond0_1 i (lenWord c i xt0)) :
    VS0_4.read (Elt Ideal) (VS0_4.writes (Elt Ideal) VS0_4.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc2 x0 x1 x2 x3 x4 x5 x6 x7 x8 x9 x10 xt0 hc1).2.2.2.1) = (stepM (scores (BitVec.ofNat 32 (i 1).val) (lenWord c i xt0) (initQ x0 x10) (KD x3 x6 x7 x8)) (initM x0 x10 x1)) := by
  rw [runA_m]
  simp only [sOf, PM, PL, PA, LQ, LM0, LL0, LA0, ldScale_eq, ld0_eq, ld1_eq, ld2_eq, ld10_eq, kdOf_eq, vdOf_eq, un15, un18, un19, un20, View.readCov_cons_toLoadRect, shapeCast_self]
  exact View.read_writes_full _ _ _ _ _

theorem valA_l (hc0 : cond0_0 i) (hc2 : ¬cond0_2 i)  (hc1 : cond0_1 i (lenWord c i xt0)) :
    VS0_5.read (Elt Ideal) (VS0_5.writes (Elt Ideal) VS0_5.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc2 x0 x1 x2 x3 x4 x5 x6 x7 x8 x9 x10 xt0 hc1).2.2.2.2.1) = (stepL (scores (BitVec.ofNat 32 (i 1).val) (lenWord c i xt0) (initQ x0 x10) (KD x3 x6 x7 x8)) (initM x0 x10 x1) (stepM (scores (BitVec.ofNat 32 (i 1).val) (lenWord c i xt0) (initQ x0 x10) (KD x3 x6 x7 x8)) (initM x0 x10 x1)) (initL x0 x10 x1)) := by
  rw [runA_l]
  simp only [sOf, PM, PL, PA, LQ, LM0, LL0, LA0, ldScale_eq, ld0_eq, ld1_eq, ld2_eq, ld10_eq, kdOf_eq, vdOf_eq, un15, un18, un19, un20, View.readCov_cons_toLoadRect, shapeCast_self]
  exact View.read_writes_full _ _ _ _ _

theorem valB_q (hc0 : cond0_0 i) (hc2 : ¬cond0_2 i)  (hc1 : ¬cond0_1 i (lenWord c i xt0)) :
    VS0_0.read (Elt Ideal) (VS0_0.writes (Elt Ideal) VS0_0.junk (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc2 x0 x1 x2 x3 x4 x5 x6 x7 x8 x9 x10 xt0 hc1).2.1) = (initQ x0 x10) := by
  rw [runB_q]
  simp only [sOf, PM, PL, PA, LQ, LM0, LL0, LA0, ldScale_eq, ld0_eq, ld1_eq, ld2_eq, ld10_eq, kdOf_eq, vdOf_eq, un15, un18, un19, un20, View.readCov_cons_toLoadRect, shapeCast_self]
  exact View.read_writes_full _ _ _ _ _

theorem valB_acc (hc0 : cond0_0 i) (hc2 : ¬cond0_2 i)  (hc1 : ¬cond0_1 i (lenWord c i xt0)) :
    VS0_3.read (Elt Ideal) (VS0_3.writes (Elt Ideal) VS0_3.junk (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc2 x0 x1 x2 x3 x4 x5 x6 x7 x8 x9 x10 xt0 hc1).2.2.1) = (initAcc x0 x10 x1 x2) := by
  rw [runB_acc]
  simp only [sOf, PM, PL, PA, LQ, LM0, LL0, LA0, ldScale_eq, ld0_eq, ld1_eq, ld2_eq, ld10_eq, kdOf_eq, vdOf_eq, un15, un18, un19, un20, View.readCov_cons_toLoadRect, shapeCast_self]
  exact View.read_writes_full _ _ _ _ _

theorem valB_m (hc0 : cond0_0 i) (hc2 : ¬cond0_2 i)  (hc1 : ¬cond0_1 i (lenWord c i xt0)) :
    VS0_4.read (Elt Ideal) (VS0_4.writes (Elt Ideal) VS0_4.junk (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc2 x0 x1 x2 x3 x4 x5 x6 x7 x8 x9 x10 xt0 hc1).2.2.2.1) = (initM x0 x10 x1) := by
  rw [runB_m]
  simp only [sOf, PM, PL, PA, LQ, LM0, LL0, LA0, ldScale_eq, ld0_eq, ld1_eq, ld2_eq, ld10_eq, kdOf_eq, vdOf_eq, un15, un18, un19, un20, View.readCov_cons_toLoadRect, shapeCast_self]
  exact View.read_writes_full _ _ _ _ _

theorem valB_l (hc0 : cond0_0 i) (hc2 : ¬cond0_2 i)  (hc1 : ¬cond0_1 i (lenWord c i xt0)) :
    VS0_5.read (Elt Ideal) (VS0_5.writes (Elt Ideal) VS0_5.junk (kernelRun0_B c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc2 x0 x1 x2 x3 x4 x5 x6 x7 x8 x9 x10 xt0 hc1).2.2.2.2.1) = (initL x0 x10 x1) := by
  rw [runB_l]
  simp only [sOf, PM, PL, PA, LQ, LM0, LL0, LA0, ldScale_eq, ld0_eq, ld1_eq, ld2_eq, ld10_eq, kdOf_eq, vdOf_eq, un15, un18, un19, un20, View.readCov_cons_toLoadRect, shapeCast_self]
  exact View.read_writes_full _ _ _ _ _

theorem valC_acc (hc0 : ¬cond0_0 i) (hc2 : ¬cond0_2 i) (xs0 : Vec Ideal S128x1024 .bf16) (xs3 : Vec Ideal S16x1024 .f32) (xs4 : Vec Ideal S128x128 .f32) (xs5 : Vec Ideal S128x128 .f32) (hc1 : cond0_1 i (lenWord c i xt0)) :
    VS0_3.read (Elt Ideal) (VS0_3.writes (Elt Ideal) VS0_3.junk (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc2 x0 x1 x2 x3 x4 x5 x6 x7 x8 x9 x10 xt0 xs0 xs3 xs4 xs5 hc1).2.2.1) = (stepAcc (scores (BitVec.ofNat 32 (i 1).val) (lenWord c i xt0) xs0 (KD x3 x6 x7 x8)) xs4 (stepM (scores (BitVec.ofNat 32 (i 1).val) (lenWord c i xt0) xs0 (KD x3 x6 x7 x8)) xs4) (VS x5) (VD x4 x9) xs3) := by
  rw [runC_acc]
  simp only [sOf, PM, PL, PA, LQ, LM0, LL0, LA0, ldScale_eq, ld0_eq, ld1_eq, ld2_eq, ld10_eq, kdOf_eq, vdOf_eq, un15, un18, un19, un20, View.readCov_cons_toLoadRect, shapeCast_self]
  exact View.read_writes_full _ _ _ _ _

theorem valC_m (hc0 : ¬cond0_0 i) (hc2 : ¬cond0_2 i) (xs0 : Vec Ideal S128x1024 .bf16) (xs3 : Vec Ideal S16x1024 .f32) (xs4 : Vec Ideal S128x128 .f32) (xs5 : Vec Ideal S128x128 .f32) (hc1 : cond0_1 i (lenWord c i xt0)) :
    VS0_4.read (Elt Ideal) (VS0_4.writes (Elt Ideal) VS0_4.junk (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc2 x0 x1 x2 x3 x4 x5 x6 x7 x8 x9 x10 xt0 xs0 xs3 xs4 xs5 hc1).2.2.2.1) = (stepM (scores (BitVec.ofNat 32 (i 1).val) (lenWord c i xt0) xs0 (KD x3 x6 x7 x8)) xs4) := by
  rw [runC_m]
  simp only [sOf, PM, PL, PA, LQ, LM0, LL0, LA0, ldScale_eq, ld0_eq, ld1_eq, ld2_eq, ld10_eq, kdOf_eq, vdOf_eq, un15, un18, un19, un20, View.readCov_cons_toLoadRect, shapeCast_self]
  exact View.read_writes_full _ _ _ _ _

theorem valC_l (hc0 : ¬cond0_0 i) (hc2 : ¬cond0_2 i) (xs0 : Vec Ideal S128x1024 .bf16) (xs3 : Vec Ideal S16x1024 .f32) (xs4 : Vec Ideal S128x128 .f32) (xs5 : Vec Ideal S128x128 .f32) (hc1 : cond0_1 i (lenWord c i xt0)) :
    VS0_5.read (Elt Ideal) (VS0_5.writes (Elt Ideal) VS0_5.junk (kernelRun0_C c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc2 x0 x1 x2 x3 x4 x5 x6 x7 x8 x9 x10 xt0 xs0 xs3 xs4 xs5 hc1).2.2.2.2.1) = (stepL (scores (BitVec.ofNat 32 (i 1).val) (lenWord c i xt0) xs0 (KD x3 x6 x7 x8)) xs4 (stepM (scores (BitVec.ofNat 32 (i 1).val) (lenWord c i xt0) xs0 (KD x3 x6 x7 x8)) xs4) xs5) := by
  rw [runC_l]
  simp only [sOf, PM, PL, PA, LQ, LM0, LL0, LA0, ldScale_eq, ld0_eq, ld1_eq, ld2_eq, ld10_eq, kdOf_eq, vdOf_eq, un15, un18, un19, un20, View.readCov_cons_toLoadRect, shapeCast_self]
  exact View.read_writes_full _ _ _ _ _

theorem valE_out (hc0 : ¬cond0_0 i) (hc2 : cond0_2 i) (xs0 : Vec Ideal S128x1024 .bf16) (xs3 : Vec Ideal S16x1024 .f32) (xs4 : Vec Ideal S128x128 .f32) (xs5 : Vec Ideal S128x128 .f32) (hc1 : cond0_1 i (lenWord c i xt0)) :
    VO0_11.read (Elt Ideal) (VO0_11.writes (Elt Ideal) VO0_11.junk (kernelRun0_E c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc2 x0 x1 x2 x3 x4 x5 x6 x7 x8 x9 x10 xt0 xs0 xs3 xs4 xs5 hc1).1) = finish (stepAcc (scores (BitVec.ofNat 32 (i 1).val) (lenWord c i xt0) xs0 (KD x3 x6 x7 x8)) xs4 (stepM (scores (BitVec.ofNat 32 (i 1).val) (lenWord c i xt0) xs0 (KD x3 x6 x7 x8)) xs4) (VS x5) (VD x4 x9) xs3) (stepL (scores (BitVec.ofNat 32 (i 1).val) (lenWord c i xt0) xs0 (KD x3 x6 x7 x8)) xs4 (stepM (scores (BitVec.ofNat 32 (i 1).val) (lenWord c i xt0) xs0 (KD x3 x6 x7 x8)) xs4) xs5) := by
  rw [runE_out]
  simp only [sOf, PM, PL, PA, LQ, LM0, LL0, LA0, ldScale_eq, ld0_eq, ld1_eq, ld2_eq, ld10_eq, kdOf_eq, vdOf_eq, un15, un18, un19, un20, View.readCov_cons_toLoadRect, shapeCast_self]
  exact View.read_writes_full _ _ _ _ _

theorem valE_acc (hc0 : ¬cond0_0 i) (hc2 : cond0_2 i) (xs0 : Vec Ideal S128x1024 .bf16) (xs3 : Vec Ideal S16x1024 .f32) (xs4 : Vec Ideal S128x128 .f32) (xs5 : Vec Ideal S128x128 .f32) (hc1 : cond0_1 i (lenWord c i xt0)) :
    VS0_3.read (Elt Ideal) (VS0_3.writes (Elt Ideal) VS0_3.junk (kernelRun0_E c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc2 x0 x1 x2 x3 x4 x5 x6 x7 x8 x9 x10 xt0 xs0 xs3 xs4 xs5 hc1).2.2.1) = (stepAcc (scores (BitVec.ofNat 32 (i 1).val) (lenWord c i xt0) xs0 (KD x3 x6 x7 x8)) xs4 (stepM (scores (BitVec.ofNat 32 (i 1).val) (lenWord c i xt0) xs0 (KD x3 x6 x7 x8)) xs4) (VS x5) (VD x4 x9) xs3) := by
  rw [runE_acc]
  simp only [sOf, PM, PL, PA, LQ, LM0, LL0, LA0, ldScale_eq, ld0_eq, ld1_eq, ld2_eq, ld10_eq, kdOf_eq, vdOf_eq, un15, un18, un19, un20, View.readCov_cons_toLoadRect, shapeCast_self]
  exact View.read_writes_full _ _ _ _ _

theorem valE_m (hc0 : ¬cond0_0 i) (hc2 : cond0_2 i) (xs0 : Vec Ideal S128x1024 .bf16) (xs3 : Vec Ideal S16x1024 .f32) (xs4 : Vec Ideal S128x128 .f32) (xs5 : Vec Ideal S128x128 .f32) (hc1 : cond0_1 i (lenWord c i xt0)) :
    VS0_4.read (Elt Ideal) (VS0_4.writes (Elt Ideal) VS0_4.junk (kernelRun0_E c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc2 x0 x1 x2 x3 x4 x5 x6 x7 x8 x9 x10 xt0 xs0 xs3 xs4 xs5 hc1).2.2.2.1) = (stepM (scores (BitVec.ofNat 32 (i 1).val) (lenWord c i xt0) xs0 (KD x3 x6 x7 x8)) xs4) := by
  rw [runE_m]
  simp only [sOf, PM, PL, PA, LQ, LM0, LL0, LA0, ldScale_eq, ld0_eq, ld1_eq, ld2_eq, ld10_eq, kdOf_eq, vdOf_eq, un15, un18, un19, un20, View.readCov_cons_toLoadRect, shapeCast_self]
  exact View.read_writes_full _ _ _ _ _

theorem valE_l (hc0 : ¬cond0_0 i) (hc2 : cond0_2 i) (xs0 : Vec Ideal S128x1024 .bf16) (xs3 : Vec Ideal S16x1024 .f32) (xs4 : Vec Ideal S128x128 .f32) (xs5 : Vec Ideal S128x128 .f32) (hc1 : cond0_1 i (lenWord c i xt0)) :
    VS0_5.read (Elt Ideal) (VS0_5.writes (Elt Ideal) VS0_5.junk (kernelRun0_E c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc2 x0 x1 x2 x3 x4 x5 x6 x7 x8 x9 x10 xt0 xs0 xs3 xs4 xs5 hc1).2.2.2.2.1) = (stepL (scores (BitVec.ofNat 32 (i 1).val) (lenWord c i xt0) xs0 (KD x3 x6 x7 x8)) xs4 (stepM (scores (BitVec.ofNat 32 (i 1).val) (lenWord c i xt0) xs0 (KD x3 x6 x7 x8)) xs4) xs5) := by
  rw [runE_l]
  simp only [sOf, PM, PL, PA, LQ, LM0, LL0, LA0, ldScale_eq, ld0_eq, ld1_eq, ld2_eq, ld10_eq, kdOf_eq, vdOf_eq, un15, un18, un19, un20, View.readCov_cons_toLoadRect, shapeCast_self]
  exact View.read_writes_full _ _ _ _ _

theorem valF_out (hc0 : ¬cond0_0 i) (hc2 : cond0_2 i) (xs0 : Vec Ideal S128x1024 .bf16) (xs3 : Vec Ideal S16x1024 .f32) (xs4 : Vec Ideal S128x128 .f32) (xs5 : Vec Ideal S128x128 .f32) (hc1 : ¬cond0_1 i (lenWord c i xt0)) :
    VO0_11.read (Elt Ideal) (VO0_11.writes (Elt Ideal) VO0_11.junk (kernelRun0_F c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc2 x0 x1 x2 x3 x4 x5 x6 x7 x8 x9 x10 xt0 xs0 xs3 xs4 xs5 hc1).1) = finish xs3 xs5 := by
  rw [runF_out]
  simp only [sOf, PM, PL, PA, LQ, LM0, LL0, LA0, ldScale_eq, ld0_eq, ld1_eq, ld2_eq, ld10_eq, kdOf_eq, vdOf_eq, un15, un18, un19, un20, View.readCov_cons_toLoadRect, shapeCast_self]
  exact View.read_writes_full _ _ _ _ _

end Cert.KernelIdeal.Step
-- ==== Proof.Blocks.lean ====
/-
  The blocks the kernel reads at a grid point, element by element: point `t` is batch `t / 8`, tile `t % 8`.
-/
module

public import proofs.«01_k».proof.Proof.Gen.KernelIdeal.Frame
public import proofs.«01_k».proof.Proof.TablesKernelIdeal
public import proofs.«01_k».proof.Proof.CaseValue

@[expose] public section

set_option maxRecDepth 16384

noncomputable section

namespace Cert.KernelIdeal.Blocks

open Idealize.ShloMosaic Idealize.ShloMosaic.TcCoe Cert.KernelIdeal Cert.KernelIdeal.Gen

theorem coords0 (t : Fin grid0.N) : (grid0.coords t 0).val = t.val / 8 := by
  have ht : t.val < 512 := Nat.lt_of_lt_of_eq t.isLt N_0
  have e0 : (grid0.coords t 0).val = t.val / 8 % 64 := Pipeline.Grid.coords_val t 0 (by decide) rfl
  omega

theorem coords1 (t : Fin grid0.N) : (grid0.coords t 1).val = t.val % 8 := by
  have e1 : (grid0.coords t 1).val = t.val / 1 % 8 := Pipeline.Grid.coords_val t 1 (by decide) rfl
  omega

/-- The batch of a grid point. -/
def bat (t : Fin grid0.N) : Fin 64 := ⟨t.val / 8, by have ht : t.val < 512 := Nat.lt_of_lt_of_eq t.isLt N_0; omega⟩

/-- The position in the cache of token `p` of the tile the point reads, by the prefetched lengths. -/
def posAt (pf : pre0.Contents (Elt Ideal)) (t : Fin grid0.N) (p : Fin 512) : Fin 4096 :=
  ⟨Tables.tile pf (grid0.coords t) * 512 + p.val, by have := Tables.tile_lt pf (grid0.coords t); have := p.isLt; omega⟩

theorem emb3 (a : (pcfg0 (F := Ideal)).Adm) (t : Fin (cfg0 a).N) (h : Fin 8) (w : Fin 64) (p : Fin 512) :
    (((cfg0 a).win 3).blk t).view.emb (ix4 0 h w p : S1x8x64x512.Idx) = (ix4 (bat t) h w (posAt a.1 t p) : S64x8x64x4096.Idx) := by
  have hi : ((cfg0 a).win 3).index t = ![(grid0.coords t 0).val, 0, 0, Tables.tile a.1 (grid0.coords t)] := Tables.transform_3 a.1 (grid0.coords t)
  have key : ∀ d, ((((cfg0 a).win 3).blk t).view.emb (ix4 0 h w p : S1x8x64x512.Idx) d).val
      = ((cfg0 a).win 3).kind.off (((cfg0 a).win 3).index t d) (((cfg0 a).win 3).size d) + 1 * ((ix4 0 h w p : S1x8x64x512.Idx) d).val := fun d => rfl
  rw [hi] at key
  refine funext fun d => Fin.ext ((key d).trans ?_)
  match d with
  | ⟨0, _⟩ => show (grid0.coords t 0).val * 1 + 1 * 0 = t.val / 8; rw [coords0]; omega
  | ⟨1, _⟩ => show 0 * 8 + 1 * h.val = h.val; omega
  | ⟨2, _⟩ => show 0 * 64 + 1 * w.val = w.val; omega
  | ⟨3, _⟩ => show Tables.tile a.1 (grid0.coords t) * 512 + 1 * p.val = Tables.tile a.1 (grid0.coords t) * 512 + p.val; omega

theorem emb4 (a : (pcfg0 (F := Ideal)).Adm) (t : Fin (cfg0 a).N) (h : Fin 8) (w : Fin 64) (p : Fin 512) :
    (((cfg0 a).win 4).blk t).view.emb (ix4 0 h w p : S1x8x64x512.Idx) = (ix4 (bat t) h w (posAt a.1 t p) : S64x8x64x4096.Idx) := by
  have hi : ((cfg0 a).win 4).index t = ![(grid0.coords t 0).val, 0, 0, Tables.tile a.1 (grid0.coords t)] := Tables.transform_4 a.1 (grid0.coords t)
  have key : ∀ d, ((((cfg0 a).win 4).blk t).view.emb (ix4 0 h w p : S1x8x64x512.Idx) d).val
      = ((cfg0 a).win 4).kind.off (((cfg0 a).win 4).index t d) (((cfg0 a).win 4).size d) + 1 * ((ix4 0 h w p : S1x8x64x512.Idx) d).val := fun d => rfl
  rw [hi] at key
  refine funext fun d => Fin.ext ((key d).trans ?_)
  match d with
  | ⟨0, _⟩ => show (grid0.coords t 0).val * 1 + 1 * 0 = t.val / 8; rw [coords0]; omega
  | ⟨1, _⟩ => show 0 * 8 + 1 * h.val = h.val; omega
  | ⟨2, _⟩ => show 0 * 64 + 1 * w.val = w.val; omega
  | ⟨3, _⟩ => show Tables.tile a.1 (grid0.coords t) * 512 + 1 * p.val = Tables.tile a.1 (grid0.coords t) * 512 + p.val; omega

theorem emb5 (a : (pcfg0 (F := Ideal)).Adm) (t : Fin (cfg0 a).N) (h : Fin 8) (p : Fin 512) :
    (((cfg0 a).win 5).blk t).view.emb (ix3 0 h p : S1x8x512.Idx) = (ix3 (bat t) h (posAt a.1 t p) : S64x8x4096.Idx) := by
  have hi : ((cfg0 a).win 5).index t = ![(grid0.coords t 0).val, 0, Tables.tile a.1 (grid0.coords t)] := Tables.transform_5 a.1 (grid0.coords t)
  have key : ∀ d, ((((cfg0 a).win 5).blk t).view.emb (ix3 0 h p : S1x8x512.Idx) d).val
      = ((cfg0 a).win 5).kind.off (((cfg0 a).win 5).index t d) (((cfg0 a).win 5).size d) + 1 * ((ix3 0 h p : S1x8x512.Idx) d).val := fun d => rfl
  rw [hi] at key
  refine funext fun d => Fin.ext ((key d).trans ?_)
  match d with
  | ⟨0, _⟩ => show (grid0.coords t 0).val * 1 + 1 * 0 = t.val / 8; rw [coords0]; omega
  | ⟨1, _⟩ => show 0 * 8 + 1 * h.val = h.val; omega
  | ⟨2, _⟩ => show Tables.tile a.1 (grid0.coords t) * 512 + 1 * p.val = Tables.tile a.1 (grid0.coords t) * 512 + p.val; omega

theorem emb6 (a : (pcfg0 (F := Ideal)).Adm) (t : Fin (cfg0 a).N) (h : Fin 8) (o : Fin 4) (p : Fin 512) :
    (((cfg0 a).win 6).blk t).view.emb (ix4 0 h o p : S1x8x4x512.Idx) = (ix4 (bat t) h o (posAt a.1 t p) : S64x8x4x4096.Idx) := by
  have hi : ((cfg0 a).win 6).index t = ![(grid0.coords t 0).val, 0, 0, Tables.tile a.1 (grid0.coords t)] := Tables.transform_6 a.1 (grid0.coords t)
  have key : ∀ d, ((((cfg0 a).win 6).blk t).view.emb (ix4 0 h o p : S1x8x4x512.Idx) d).val
      = ((cfg0 a).win 6).kind.off (((cfg0 a).win 6).index t d) (((cfg0 a).win 6).size d) + 1 * ((ix4 0 h o p : S1x8x4x512.Idx) d).val := fun d => rfl
  rw [hi] at key
  refine funext fun d => Fin.ext ((key d).trans ?_)
  match d with
  | ⟨0, _⟩ => show (grid0.coords t 0).val * 1 + 1 * 0 = t.val / 8; rw [coords0]; omega
  | ⟨1, _⟩ => show 0 * 8 + 1 * h.val = h.val; omega
  | ⟨2, _⟩ => show 0 * 4 + 1 * o.val = o.val; omega
  | ⟨3, _⟩ => show Tables.tile a.1 (grid0.coords t) * 512 + 1 * p.val = Tables.tile a.1 (grid0.coords t) * 512 + p.val; omega

theorem emb7 (a : (pcfg0 (F := Ideal)).Adm) (t : Fin (cfg0 a).N) (h : Fin 8) (o : Fin 4) (p : Fin 512) :
    (((cfg0 a).win 7).blk t).view.emb (ix4 0 h o p : S1x8x4x512.Idx) = (ix4 (bat t) h o (posAt a.1 t p) : S64x8x4x4096.Idx) := by
  have hi : ((cfg0 a).win 7).index t = ![(grid0.coords t 0).val, 0, 0, Tables.tile a.1 (grid0.coords t)] := Tables.transform_7 a.1 (grid0.coords t)
  have key : ∀ d, ((((cfg0 a).win 7).blk t).view.emb (ix4 0 h o p : S1x8x4x512.Idx) d).val
      = ((cfg0 a).win 7).kind.off (((cfg0 a).win 7).index t d) (((cfg0 a).win 7).size d) + 1 * ((ix4 0 h o p : S1x8x4x512.Idx) d).val := fun d => rfl
  rw [hi] at key
  refine funext fun d => Fin.ext ((key d).trans ?_)
  match d with
  | ⟨0, _⟩ => show (grid0.coords t 0).val * 1 + 1 * 0 = t.val / 8; rw [coords0]; omega
  | ⟨1, _⟩ => show 0 * 8 + 1 * h.val = h.val; omega
  | ⟨2, _⟩ => show 0 * 4 + 1 * o.val = o.val; omega
  | ⟨3, _⟩ => show Tables.tile a.1 (grid0.coords t) * 512 + 1 * p.val = Tables.tile a.1 (grid0.coords t) * 512 + p.val; omega

variable (m : (ℓ : Loc nD τ sig) → Buf (Elt Ideal) ℓ) (hO : Ok m) (c : Dev nD) (t : Fin (cfgM m hO).N)

/-- The position in the cache of token `p` of the tile the point reads. -/
abbrev pos (t : Fin grid0.N) (p : Fin 512) : Fin 4096 := posAt (tbl m) t p

/-- The length the point's batch has. -/
def len (t : Fin grid0.N) : BitVec 32 := (m ((c.tc : Thread nD τ).loc main_arg8) : Vec Ideal S64 .i32) (ix1 (bat t))

theorem blk0 (r k : Fin 128) : (iblk m hO c 0 t : Vec Ideal S1x128x128 .bf16) (ix3 0 r k)
    = (V m c main_v2 : Vec Ideal S64x128x128 .bf16) (ix3 (bat t) r k) := by
  unfold iblk
  refine (View.read_apply ..).trans (congrArg (V m c main_v2) (funext fun a => Fin.ext ?_))
  match a with
  | ⟨0, _⟩ => show (BitVec.ofNat 32 (grid0.coords t 0).val).toNat * 1 + 1 * 0 = _; rw [Tables.batch, coords0]; show _ = t.val / 8; omega
  | ⟨1, _⟩ => show 0 * 128 + 1 * r.val = r.val; omega
  | ⟨2, _⟩ => show 0 * 128 + 1 * k.val = k.val; omega

theorem blk1 (j : Fin 16) (k : Fin 1024) : (iblk m hO c 1 t : Vec Ideal S1x16x1024 .bf16) (ix3 0 j k)
    = (V m c main_v19 : Vec Ideal S64x16x1024 .bf16) (ix3 (bat t) j k) := by
  unfold iblk
  refine (View.read_apply ..).trans (congrArg (V m c main_v19) (funext fun a => Fin.ext ?_))
  match a with
  | ⟨0, _⟩ => show (BitVec.ofNat 32 (grid0.coords t 0).val).toNat * 1 + 1 * 0 = _; rw [Tables.batch, coords0]; show _ = t.val / 8; omega
  | ⟨1, _⟩ => show 0 * 16 + 1 * j.val = j.val; omega
  | ⟨2, _⟩ => show 0 * 1024 + 1 * k.val = k.val; omega

theorem blk2 (j : Fin 16) (k : Fin 1024) : (iblk m hO c 2 t : Vec Ideal S1x16x1024 .bf16) (ix3 0 j k)
    = (V m c main_v23 : Vec Ideal S64x16x1024 .bf16) (ix3 (bat t) j k) := by
  unfold iblk
  refine (View.read_apply ..).trans (congrArg (V m c main_v23) (funext fun a => Fin.ext ?_))
  match a with
  | ⟨0, _⟩ => show (BitVec.ofNat 32 (grid0.coords t 0).val).toNat * 1 + 1 * 0 = _; rw [Tables.batch, coords0]; show _ = t.val / 8; omega
  | ⟨1, _⟩ => show 0 * 16 + 1 * j.val = j.val; omega
  | ⟨2, _⟩ => show 0 * 1024 + 1 * k.val = k.val; omega

theorem blk3 (h : Fin 8) (w : Fin 64) (p : Fin 512) : (iblk m hO c 3 t : Vec Ideal S1x8x64x512 .i8) (ix4 0 h w p)
    = (V m c main_v24 : Vec Ideal S64x8x64x4096 .i8) (ix4 (bat t) h w (pos m t p)) := by
  unfold iblk
  exact (View.read_apply ..).trans (congrArg (V m c main_v24) (emb3 (adm m hO) t h w p))

theorem blk4 (h : Fin 8) (w : Fin 64) (p : Fin 512) : (iblk m hO c 4 t : Vec Ideal S1x8x64x512 .i8) (ix4 0 h w p)
    = (V m c main_v25 : Vec Ideal S64x8x64x4096 .i8) (ix4 (bat t) h w (pos m t p)) := by
  unfold iblk
  exact (View.read_apply ..).trans (congrArg (V m c main_v25) (emb4 (adm m hO) t h w p))

theorem blk5 (h : Fin 8) (p : Fin 512) : (iblk m hO c 5 t : Vec Ideal S1x8x512 .f32) (ix3 0 h p)
    = (V m c main_v26 : Vec Ideal S64x8x4096 .f32) (ix3 (bat t) h (pos m t p)) := by
  unfold iblk
  exact (View.read_apply ..).trans (congrArg (V m c main_v26) (emb5 (adm m hO) t h p))

theorem blk6 (h : Fin 8) (o : Fin 4) (p : Fin 512) : (iblk m hO c 6 t : Vec Ideal S1x8x4x512 .i32) (ix4 0 h o p)
    = (V m c main_v27 : Vec Ideal S64x8x4x4096 .i32) (ix4 (bat t) h o (pos m t p)) := by
  unfold iblk
  exact (View.read_apply ..).trans (congrArg (V m c main_v27) (emb6 (adm m hO) t h o p))

theorem blk7 (h : Fin 8) (o : Fin 4) (p : Fin 512) : (iblk m hO c 7 t : Vec Ideal S1x8x4x512 .i16) (ix4 0 h o p)
    = (V m c main_v28 : Vec Ideal S64x8x4x4096 .i16) (ix4 (bat t) h o (pos m t p)) := by
  unfold iblk
  exact (View.read_apply ..).trans (congrArg (V m c main_v28) (emb7 (adm m hO) t h o p))

theorem blk8 (n : Fin 8) (e : Fin 16) (l : Fin 128) : (iblk m hO c 8 t : Vec Ideal S8x16x128 .i16) (ix3 n e l)
    = (V m c main_v31 : Vec Ideal S8x16x128 .i16) (ix3 n e l) := by
  unfold iblk
  refine (View.read_apply ..).trans (congrArg (V m c main_v31) (funext fun a => Fin.ext ?_))
  match a with
  | ⟨0, _⟩ => show 0 * 8 + 1 * n.val = n.val; omega
  | ⟨1, _⟩ => show 0 * 16 + 1 * e.val = e.val; omega
  | ⟨2, _⟩ => show 0 * 128 + 1 * l.val = l.val; omega

theorem blk9 (n : Fin 8) (e : Fin 16) (l : Fin 128) : (iblk m hO c 9 t : Vec Ideal S8x16x128 .i16) (ix3 n e l)
    = (V m c main_v34 : Vec Ideal S8x16x128 .i16) (ix3 n e l) := by
  unfold iblk
  refine (View.read_apply ..).trans (congrArg (V m c main_v34) (funext fun a => Fin.ext ?_))
  match a with
  | ⟨0, _⟩ => show 0 * 8 + 1 * n.val = n.val; omega
  | ⟨1, _⟩ => show 0 * 16 + 1 * e.val = e.val; omega
  | ⟨2, _⟩ => show 0 * 128 + 1 * l.val = l.val; omega

theorem blk10 (d : Fin 128) (k : Fin 1024) : (iblk m hO c 10 t : Vec Ideal S128x1024 .bf16) (ix2 d k)
    = (V m c main_v15 : Vec Ideal S128x1024 .bf16) (ix2 d k) := by
  unfold iblk
  refine (View.read_apply ..).trans (congrArg (V m c main_v15) (funext fun a => Fin.ext ?_))
  match a with
  | ⟨0, _⟩ => show 0 * 128 + 1 * d.val = d.val; omega
  | ⟨1, _⟩ => show 0 * 1024 + 1 * k.val = k.val; omega

/-- The word the body compares with is the length of the point's batch. -/
theorem lenWord_eq : Step.lenWord c (grid0.coords t) (tbl m 0) = len m c t := by
  obtain rfl : c = 0 := Subsingleton.elim _ _
  have hV : tbl m 0 = m (((0 : Dev nD).tc : Thread nD τ).loc main_arg8) := V_main_arg8 m 0
  rw [hV]
  refine congrArg (m (((0 : Dev nD).tc : Thread nD τ).loc main_arg8)) (funext fun a => Fin.ext ?_)
  match a with
  | ⟨0, _⟩ =>
    show (BitVec.ofNat 32 (grid0.coords t 0).val).toNat + 1 * 0 = t.val / 8
    rw [Tables.batch, coords0]; omega

/-- The length the tile is computed from is the same word. -/
theorem tile_eq : Tables.tile (tbl m) (grid0.coords t)
    = (Scalar.minsi (BitVec.ofNat 32 (t.val % 8)) (Scalar.maxsi (Scalar.divsi (Scalar.subi (len m c t) 1#32) 512#32) 0#32)).toNat := by
  obtain rfl : c = 0 := Subsingleton.elim _ _
  have hV : tbl m 0 = m (((0 : Dev nD).tc : Thread nD τ).loc main_arg8) := V_main_arg8 m 0
  unfold Tables.tile
  rw [coords1]
  congr 5
  refine Eq.trans (congrFun hV _) (congrArg (m (((0 : Dev nD).tc : Thread nD τ).loc main_arg8)) (funext fun a => Fin.ext ?_))
  match a with
  | ⟨0, _⟩ =>
    show (BitVec.ofNat 32 (grid0.coords t 0).val).toNat + 1 * 0 = t.val / 8
    rw [Tables.batch, coords0]; omega

end Cert.KernelIdeal.Blocks

end
-- ==== Proof.Outs.lean ====
/-
  What the scratch and the output's buffer hold after each grid point, in terms of the arrays the point reads and what the point before left.
-/
module

public import proofs.«01_k».proof.Proof.Blocks

@[expose] public section

set_option maxRecDepth 16384

noncomputable section

namespace Cert.KernelIdeal.Outs

open Idealize.ShloMosaic Idealize.ShloMosaic.TcCoe Cert.KernelIdeal Cert.KernelIdeal.Gen Cert.KernelIdeal.Step

variable (m : (ℓ : Loc nD τ sig) → Buf (Elt Ideal) ℓ) (hO : Ok m) (c : Dev nD) (t : Fin (cfgM m hO).N)

/-- Whether the point's tile holds a filled position. -/
def Active : Prop := cond0_1 (grid0.coords t) (Blocks.len m c t)

theorem active_word : cond0_1 (grid0.coords t) (lenWord c (grid0.coords t) (tbl m 0)) ↔ Active m hO c t := by
  unfold Active
  rw [Blocks.lenWord_eq m hO c t]

/-- The scaled queries the point's batch starts from. -/
abbrev q0 : Vec Ideal S128x1024 .bf16 := initQ (iblk m hO c 0 t) (iblk m hO c 10 t)
/-- The running maximum, sum and accumulator over the new tokens alone. -/
abbrev m0 : Vec Ideal S128x128 .f32 := initM (iblk m hO c 0 t) (iblk m hO c 10 t) (iblk m hO c 1 t)
abbrev l0 : Vec Ideal S128x128 .f32 := initL (iblk m hO c 0 t) (iblk m hO c 10 t) (iblk m hO c 1 t)
abbrev a0 : Vec Ideal S16x1024 .f32 := initAcc (iblk m hO c 0 t) (iblk m hO c 10 t) (iblk m hO c 1 t) (iblk m hO c 2 t)
/-- The scores of the point's tile. -/
abbrev sc (q : Vec Ideal S128x1024 .bf16) : Vec Ideal S128x512 .f32 :=
  scores (BitVec.ofNat 32 (grid0.coords t 1).val) (Blocks.len m c t) q (KD (iblk m hO c 3 t) (iblk m hO c 6 t) (iblk m hO c 7 t) (iblk m hO c 8 t))
abbrev vs : Fin 4 → Vec Ideal S1x8x128 .f32 := VS (iblk m hO c 5 t)
abbrev vd : Vec Ideal S512x1024 .bf16 := VD (iblk m hO c 4 t) (iblk m hO c 9 t)

/-- What is left after the point: the output's buffer, then the queries, the accumulator, the maximum and the sum. -/
abbrev St := outsAt0 m hO c t.val t.isLt
/-- What was left by the point before. -/
abbrev Pr := outsAt0 m hO c (t.val - 1) (Nat.lt_of_le_of_lt (Nat.sub_le _ _) t.isLt)

theorem start_on (h0 : t.val % 8 = 0) (h1 : Active m hO c t) :
    (St m hO c t).2.1 = q0 m hO c t
    ∧ (St m hO c t).2.2.1 = stepAcc (sc m hO c t (q0 m hO c t)) (m0 m hO c t) (stepM (sc m hO c t (q0 m hO c t)) (m0 m hO c t)) (vs m hO c t) (vd m hO c t) (a0 m hO c t)
    ∧ (St m hO c t).2.2.2.1 = stepM (sc m hO c t (q0 m hO c t)) (m0 m hO c t)
    ∧ (St m hO c t).2.2.2.2 = stepL (sc m hO c t (q0 m hO c t)) (m0 m hO c t) (stepM (sc m hO c t (q0 m hO c t)) (m0 m hO c t)) (l0 m hO c t) := by
  have h1' := (active_word m hO c t).mpr h1
  have h2 : ¬t.val % 8 = 7 := by omega
  unfold sc
  rw [← Blocks.lenWord_eq m hO c t]
  have e := outsAt0_A m hO c t h0 h1' h2
  refine ⟨?_, ?_, ?_, ?_⟩
  · refine (congrArg (fun x => x.2.1) e).trans ?_
    dsimp only []
    unfold sout0_A_0
    exact valA_q ..
  · refine (congrArg (fun x => x.2.2.1) e).trans ?_
    dsimp only []
    unfold sout0_A_3
    exact valA_acc ..
  · refine (congrArg (fun x => x.2.2.2.1) e).trans ?_
    dsimp only []
    unfold sout0_A_4
    exact valA_m ..
  · refine (congrArg (fun x => x.2.2.2.2) e).trans ?_
    dsimp only []
    unfold sout0_A_5
    exact valA_l ..

theorem start_off (h0 : t.val % 8 = 0) (h1 : ¬Active m hO c t) :
    (St m hO c t).2.1 = q0 m hO c t ∧ (St m hO c t).2.2.1 = a0 m hO c t
    ∧ (St m hO c t).2.2.2.1 = m0 m hO c t ∧ (St m hO c t).2.2.2.2 = l0 m hO c t := by
  have h1' := fun h => h1 ((active_word m hO c t).mp h)
  have h2 : ¬t.val % 8 = 7 := by omega
  have e := outsAt0_B m hO c t h0 h1' h2
  refine ⟨?_, ?_, ?_, ?_⟩
  · refine (congrArg (fun x => x.2.1) e).trans ?_
    dsimp only []
    unfold sout0_B_0
    exact valB_q ..
  · refine (congrArg (fun x => x.2.2.1) e).trans ?_
    dsimp only []
    unfold sout0_B_3
    exact valB_acc ..
  · refine (congrArg (fun x => x.2.2.2.1) e).trans ?_
    dsimp only []
    unfold sout0_B_4
    exact valB_m ..
  · refine (congrArg (fun x => x.2.2.2.2) e).trans ?_
    dsimp only []
    unfold sout0_B_5
    exact valB_l ..

theorem next_on (h0 : ¬t.val % 8 = 0) (h1 : Active m hO c t) :
    (St m hO c t).2.1 = (Pr m hO c t).2.1
    ∧ (St m hO c t).2.2.1 = stepAcc (sc m hO c t (Pr m hO c t).2.1) (Pr m hO c t).2.2.2.1
        (stepM (sc m hO c t (Pr m hO c t).2.1) (Pr m hO c t).2.2.2.1) (vs m hO c t) (vd m hO c t) (Pr m hO c t).2.2.1
    ∧ (St m hO c t).2.2.2.1 = stepM (sc m hO c t (Pr m hO c t).2.1) (Pr m hO c t).2.2.2.1
    ∧ (St m hO c t).2.2.2.2 = stepL (sc m hO c t (Pr m hO c t).2.1) (Pr m hO c t).2.2.2.1
        (stepM (sc m hO c t (Pr m hO c t).2.1) (Pr m hO c t).2.2.2.1) (Pr m hO c t).2.2.2.2 := by
  have h1' := (active_word m hO c t).mpr h1
  unfold sc
  rw [← Blocks.lenWord_eq m hO c t]
  by_cases h2 : t.val % 8 = 7
  · have e := outsAt0_E m hO c t h0 h1' h2
    refine ⟨?_, ?_, ?_, ?_⟩
    · exact congrArg (fun x => x.2.1) e
    · refine (congrArg (fun x => x.2.2.1) e).trans ?_
      dsimp only []
      unfold sout0_E_3
      exact valE_acc ..
    · refine (congrArg (fun x => x.2.2.2.1) e).trans ?_
      dsimp only []
      unfold sout0_E_4
      exact valE_m ..
    · refine (congrArg (fun x => x.2.2.2.2) e).trans ?_
      dsimp only []
      unfold sout0_E_5
      exact valE_l ..
  · have e := outsAt0_C m hO c t h0 h1' h2
    refine ⟨?_, ?_, ?_, ?_⟩
    · exact congrArg (fun x => x.2.1) e
    · refine (congrArg (fun x => x.2.2.1) e).trans ?_
      dsimp only []
      unfold sout0_C_3
      exact valC_acc ..
    · refine (congrArg (fun x => x.2.2.2.1) e).trans ?_
      dsimp only []
      unfold sout0_C_4
      exact valC_m ..
    · refine (congrArg (fun x => x.2.2.2.2) e).trans ?_
      dsimp only []
      unfold sout0_C_5
      exact valC_l ..

theorem next_off (h0 : ¬t.val % 8 = 0) (h1 : ¬Active m hO c t) :
    (St m hO c t).2.1 = (Pr m hO c t).2.1 ∧ (St m hO c t).2.2.1 = (Pr m hO c t).2.2.1
    ∧ (St m hO c t).2.2.2.1 = (Pr m hO c t).2.2.2.1 ∧ (St m hO c t).2.2.2.2 = (Pr m hO c t).2.2.2.2 := by
  have h1' := fun h => h1 ((active_word m hO c t).mp h)
  by_cases h2 : t.val % 8 = 7
  · have e := outsAt0_F m hO c t h0 h1' h2
    exact ⟨congrArg (fun x => x.2.1) e, congrArg (fun x => x.2.2.1) e, congrArg (fun x => x.2.2.2.1) e, congrArg (fun x => x.2.2.2.2) e⟩
  · have e := outsAt0_D m hO c t h0 h1' h2
    exact ⟨congrArg (fun x => x.2.1) e, congrArg (fun x => x.2.2.1) e, congrArg (fun x => x.2.2.2.1) e, congrArg (fun x => x.2.2.2.2) e⟩

/-- The last point of a batch writes the accumulator over the sum. -/
theorem last (h2 : t.val % 8 = 7) : (St m hO c t).1 = finish (St m hO c t).2.2.1 (St m hO c t).2.2.2.2 := by
  have h0 : ¬t.val % 8 = 0 := by omega
  by_cases h1 : Active m hO c t
  · obtain ⟨-, ha, -, hl⟩ := next_on m hO c t h0 h1
    rw [ha, hl]
    have h1' := (active_word m hO c t).mpr h1
    unfold sc
    rw [← Blocks.lenWord_eq m hO c t]
    refine (congrArg (fun x => x.1) (outsAt0_E m hO c t h0 h1' h2)).trans ?_
    dsimp only []
    unfold out0_E_11
    exact valE_out ..
  · obtain ⟨-, ha, -, hl⟩ := next_off m hO c t h0 h1
    rw [ha, hl]
    have h1' := fun h => h1 ((active_word m hO c t).mp h)
    refine (congrArg (fun x => x.1) (outsAt0_F m hO c t h0 h1' h2)).trans ?_
    dsimp only []
    unfold out0_F_11
    exact valF_out ..

end Cert.KernelIdeal.Outs

end
-- ==== Proof.Softmax.lean ====
/-
  Exponentials of scores over the extended reals: a masked score weighs nothing, and a common real shift factors out
  of a sum.
-/
module

public import Idealize.ShloMosaic.Lib.Pointwise
public import Mathlib.Analysis.SpecialFunctions.Exp
import Mathlib.Tactic.Linarith
import Mathlib.Tactic.Positivity
import Mathlib.Tactic.FieldSimp

@[expose] public section

noncomputable section

namespace Cert.Softmax

open Idealize.ShloMosaic

/-- The mask's value is minus infinity. -/
theorem negInf : Ideal.ofBits .f32 0xFF800000#32 = (⊥ : EReal) := by
  simp [Ideal.ofBits, Ideal.ieee]

/-- The weight of a score before any shift: nothing for a masked one, the exponential otherwise. -/
def eps (x : EReal) : ℝ := if x = ⊥ then 0 else Real.exp x.toReal

theorem eps_nonneg (x : EReal) : 0 ≤ eps x := by
  unfold eps
  split
  · exact le_refl 0
  · exact (Real.exp_pos _).le

theorem eps_bot : eps ⊥ = 0 := if_pos rfl

theorem eps_pos {x : EReal} (h : x ≠ ⊥) : 0 < eps x := by
  unfold eps
  rw [if_neg h]
  exact Real.exp_pos _

theorem exp_sub {x : EReal} (hx : x ≠ ⊤) (M : ℝ) : Ideal.exp (x - (M : EReal)) = ((Real.exp (-M) * eps x : ℝ) : EReal) := by
  induction x using EReal.rec with
  | bot => rw [EReal.bot_sub, Ideal.exp_bot, eps_bot, mul_zero, EReal.coe_zero]
  | top => exact absurd rfl hx
  | coe r =>
    rw [← EReal.coe_sub, Ideal.exp_coe]
    unfold eps
    rw [if_neg (EReal.coe_ne_bot r), EReal.toReal_coe, ← Real.exp_add, neg_add_eq_sub]

theorem exp_sub_coe (M M' : ℝ) : Ideal.exp ((M : EReal) - (M' : EReal)) = ((Real.exp (M - M') : ℝ) : EReal) := by
  rw [← EReal.coe_sub, Ideal.exp_coe]

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real factor that is not negative goes into a sum. -/
theorem coe_mul_sum {ι : Type} (s : Finset ι) (c : ℝ) (hc : 0 ≤ c) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha,
      EReal.left_distrib_of_nonneg_of_ne_top (EReal.coe_nonneg.mpr hc) (EReal.coe_ne_top c), ih]

theorem sum_mul_coe {ι : Type} (s : Finset ι) (c : ℝ) (hc : 0 ≤ c) (f : ι → EReal) :
    (∑ i ∈ s, f i) * (c : EReal) = ∑ i ∈ s, f i * (c : EReal) := by
  rw [mul_comm, coe_mul_sum s c hc]
  exact Finset.sum_congr rfl fun i _ => mul_comm _ _

theorem coe_mul_add (c : ℝ) (hc : 0 ≤ c) (x y : EReal) : (c : EReal) * (x + y) = (c : EReal) * x + (c : EReal) * y :=
  EReal.left_distrib_of_nonneg_of_ne_top (EReal.coe_nonneg.mpr hc) (EReal.coe_ne_top c) x y

/-- Scores shifted by a real and summed. -/
theorem sum_exp {ι : Type} (s : Finset ι) (f : ι → EReal) (hf : ∀ i, f i ≠ ⊤) (M : ℝ) :
    ∑ i ∈ s, Ideal.exp (f i - (M : EReal)) = ((Real.exp (-M) * ∑ i ∈ s, eps (f i) : ℝ) : EReal) := by
  rw [Finset.mul_sum, coe_sum]
  exact Finset.sum_congr rfl fun i _ => exp_sub (hf i) M

theorem real_of {x : EReal} (h : x ≠ ⊥) (h' : x ≠ ⊤) : ∃ r : ℝ, x = (r : EReal) := ⟨x.toReal, (EReal.coe_toReal h' h).symm⟩

theorem fold_ne_top {ι : Type} (s : Finset ι) (f : ι → EReal) (hf : ∀ i, f i ≠ ⊤) : s.fold max ⊥ f ≠ ⊤ :=
  ne_of_lt ((Finset.fold_max_lt _).mpr ⟨bot_lt_top, fun i _ => lt_top_iff_ne_top.mpr (hf i)⟩)

/-- The greatest of finitely many scores is real when no score is infinite and one is real. -/
theorem fold_real {ι : Type} (s : Finset ι) (f : ι → EReal) (hf : ∀ i, f i ≠ ⊤) (i : ι) (hi : i ∈ s) (h : f i ≠ ⊥) :
    ∃ r : ℝ, s.fold max ⊥ f = (r : EReal) := by
  refine real_of (ne_of_gt ?_) (fold_ne_top s f hf)
  exact (Finset.lt_fold_max _).mpr (Or.inr ⟨i, hi, bot_lt_iff_ne_bot.mpr h⟩)

theorem max_fold_real {ι : Type} (s : Finset ι) (f : ι → EReal) (hf : ∀ i, f i ≠ ⊤) (M : ℝ) :
    ∃ r : ℝ, max (M : EReal) (s.fold max ⊥ f) = (r : EReal) := by
  refine real_of (ne_of_gt ?_) (ne_of_lt ?_)
  · exact lt_max_iff.mpr (Or.inl (EReal.bot_lt_coe M))
  · exact max_lt (EReal.coe_lt_top M) (lt_top_iff_ne_top.mpr (fold_ne_top s f hf))

/-- One over a real that is not zero. -/
theorem one_div {y : ℝ} (h : y ≠ 0) : Ideal.div 1 (y : EReal) = ((1 / y : ℝ) : EReal) := by
  rw [Ideal.div_coe h, one_mul]

end Cert.Softmax
-- ==== Proof.Online.lean ====
/-
  The running maximum, normaliser and weighted sum of one batch's softmax, as an invariant of the tiles.
-/
module

public import proofs.«01_k».proof.Proof.StepValue
public import proofs.«01_k».proof.Proof.Softmax
import Mathlib.Tactic.FieldSimp
import Mathlib.Tactic.Linarith

@[expose] public section

set_option maxRecDepth 16384

noncomputable section

namespace Cert.KernelIdeal.Step

open Idealize.ShloMosaic Cert.KernelIdeal Cert.KernelIdeal.Gen Cert.Softmax

/-- The three running values against `E`, each row's unshifted sum of weights, and `A`, each entry's unshifted
    weighted sum of values. -/
def Inv (E : Fin 128 → ℝ) (A : Fin 16 → Fin 1024 → EReal) (acc : Vec Ideal S16x1024 .f32) (m l : Vec Ideal S128x128 .f32) : Prop :=
  ∃ M : Fin 128 → ℝ, (∀ r k, m (ix2 r k) = (M r : EReal))
    ∧ (∃ L : Fin 128 → Fin 128 → ℝ, (∀ r k, l (ix2 r k) = (L r k : EReal)) ∧ ∀ r, ∑ k, L r k = Real.exp (-(M r)) * E r)
    ∧ ∀ q k, acc (ix2 q k) = ((Real.exp (-(M (hrow (hcol k) q))) : ℝ) : EReal) * A q k

theorem stepAcc_apply (s : FVec Ideal S128x512 .f32) (m m' : FVec Ideal S128x128 .f32) (vs : Fin 4 → Vec Ideal S1x8x128 .f32)
    (vd : Vec Ideal S512x1024 .bf16) (acc : Vec Ideal S16x1024 .f32) (q : Fin 16) (k : Fin 1024) :
    stepAcc s m m' vs vd acc (ix2 q k)
      = acc (ix2 q k) * Ideal.exp (m (ix2 (hrow (hcol k) q) (lcol k)) - m' (ix2 (hrow (hcol k) q) (lcol k)))
        + ∑ c : Fin 4, ∑ j : Fin 128, (Ideal.exp (s (ix2 (hrow (hcol k) q) (⟨128 * c.val + j.val, by omega⟩ : Fin 512))
            - m' (ix2 (hrow (hcol k) q) j)) * vs c (ix3 0 (hcol k) j)) * vd (ix2 (⟨128 * c.val + j.val, by omega⟩ : Fin 512) k) := by
  have hq : ∀ (q : Fin 16), (hrow (hcol k) q).val / 16 = (hcol k).val := fun q => by
    show (16 * (hcol k).val + q.val) / 16 = _
    omega
  show acc (ix2 q k) * repeated (ownLane (exp (subf m m'))) (ix2 q k) + ownCol (weighted _ _ _ _ vd) (ix2 q k) = _
  rw [repeated_apply, ownLane_apply, ownCol_apply, weighted_apply]
  congr 1
  refine Finset.sum_congr rfl fun c _ => Finset.sum_congr rfl fun j _ => congrArg (· * _) ?_
  have hv : ∀ c : Fin 4, scaled c s m' (vs c) (ix2 (hrow (hcol k) q) j)
      = Ideal.exp (s (ix2 (hrow (hcol k) q) (⟨128 * c.val + j.val, by omega⟩ : Fin 512)) - m' (ix2 (hrow (hcol k) q) j)) * vs c (ix3 0 (hcol k) j) := fun c => by
    rw [scaled_apply, weights_apply]
    congr 2
    exact congrArg (fun a => ix3 0 a j) (Fin.ext (hq q))
  fin_cases c
  · exact hv 0
  · exact hv 1
  · exact hv 2
  · exact hv 3

theorem inv_init (x0 : Vec Ideal S1x128x128 .bf16) (x10 : Vec Ideal S128x1024 .bf16) (x1 x2 : Vec Ideal S1x16x1024 .bf16)
    (N : Fin 128 → Fin 16 → EReal) (hN : ∀ r j, k0_pay13 (newScores x0 x10 x1) rows 4#32 (ix2 r j) = N r j)
    (ht : ∀ r j, N r j ≠ ⊤) (hb : ∀ r, N r 0 ≠ ⊥) :
    Inv (fun r => ∑ j, eps (N r j)) (fun q k => ∑ j : Fin 16, (eps (N (hrow (hcol k) q) j) : EReal) * x2 (ix3 0 j k))
      (initAcc x0 x10 x1 x2) (initM x0 x10 x1) (initL x0 x10 x1) := by
  have hM : ∀ r, ∃ M : ℝ, Finset.univ.fold max ⊥ (N r) = (M : EReal) := fun r =>
    fold_real _ (N r) (ht r) 0 (Finset.mem_univ _) (hb r)
  choose M hM using hM
  have hm : ∀ r k, initM x0 x10 x1 (ix2 r k) = (M r : EReal) := fun r k => by
    rw [initM_apply, negInf, ← hM r]
    simp only [hN]
  refine ⟨M, hm, ⟨fun r k => if k = 0 then Real.exp (-(M r)) * ∑ j, eps (N r j) else 0, fun r k => ?_, fun r => ?_⟩, fun q k => ?_⟩
  · rw [initL_apply]
    by_cases hk : k = 0
    · have hk' : k.val = 0 := congrArg Fin.val hk
      rw [if_pos hk']
      show _ = ((if k = 0 then Real.exp (-(M r)) * ∑ j, eps (N r j) else 0 : ℝ) : EReal)
      rw [if_pos hk]
      simp only [hN, hm]
      exact sum_exp _ _ (ht r) (M r)
    · have hk' : ¬k.val = 0 := fun h => hk (Fin.ext h)
      rw [if_neg hk']
      show _ = ((if k = 0 then Real.exp (-(M r)) * ∑ j, eps (N r j) else 0 : ℝ) : EReal)
      rw [if_neg hk, EReal.coe_zero]
  · simp
  · rw [initAcc_apply, coe_mul_sum _ _ (Real.exp_pos _).le]
    refine Finset.sum_congr rfl fun j _ => ?_
    rw [hN, hm, exp_sub (ht _ _), EReal.coe_mul, mul_assoc]

theorem inv_step {E : Fin 128 → ℝ} {A : Fin 16 → Fin 1024 → EReal} {acc : Vec Ideal S16x1024 .f32} {m l : Vec Ideal S128x128 .f32}
    (h : Inv E A acc m l) (s : FVec Ideal S128x512 .f32) (vs : Fin 4 → Vec Ideal S1x8x128 .f32) (vd : Vec Ideal S512x1024 .bf16)
    (S : Fin 128 → Fin 512 → EReal) (hS : ∀ r j, s (ix2 r j) = S r j) (ht : ∀ r j, S r j ≠ ⊤) :
    Inv (fun r => E r + ∑ c : Fin 4, ∑ j : Fin 128, eps (S r ⟨128 * c.val + j.val, by omega⟩))
      (fun q k => A q k + ∑ c : Fin 4, ∑ j : Fin 128,
        ((eps (S (hrow (hcol k) q) ⟨128 * c.val + j.val, by omega⟩) : EReal) * vs c (ix3 0 (hcol k) j)) * vd (ix2 (⟨128 * c.val + j.val, by omega⟩ : Fin 512) k))
      (stepAcc s m (stepM s m) vs vd acc) (stepM s m) (stepL s m (stepM s m) l) := by
  obtain ⟨M, hm, ⟨L, hl, hL⟩, ha⟩ := h
  have hM' : ∀ r, ∃ M' : ℝ, max (M r : EReal) (Finset.univ.fold max ⊥ (S r)) = (M' : EReal) := fun r =>
    max_fold_real _ (S r) (ht r) (M r)
  choose M' hM' using hM'
  have hm' : ∀ r k, stepM s m (ix2 r k) = (M' r : EReal) := fun r k => by
    rw [stepM_apply, negInf, hm, ← hM' r]
    simp only [hS]
  have hx : ∀ r, Real.exp (-(M r)) * Real.exp (M r - M' r) = Real.exp (-(M' r)) := fun r => by
    rw [← Real.exp_add]
    congr 1
    linarith
  refine ⟨M', hm', ⟨fun r k => L r k * Real.exp (M r - M' r) + ∑ c : Fin 4, Real.exp (-(M' r)) * eps (S r ⟨128 * c.val + k.val, by omega⟩),
    fun r k => ?_, fun r => ?_⟩, fun q k => ?_⟩
  · rw [stepL_apply, hl, hm, hm', exp_sub_coe, EReal.coe_add, EReal.coe_mul, coe_sum]
    congr 1
    refine Finset.sum_congr rfl fun c _ => ?_
    rw [weights_apply, hS, hm', exp_sub (ht _ _)]
  · rw [Finset.sum_add_distrib, ← Finset.sum_mul, hL, mul_add, mul_right_comm, hx, Finset.sum_comm, Finset.mul_sum]
    congr 1
    exact Finset.sum_congr rfl fun c _ => (Finset.mul_sum _ _ _).symm
  · rw [stepAcc_apply, ha, hm, hm', exp_sub_coe, coe_mul_add _ (Real.exp_pos _).le, coe_mul_sum _ _ (Real.exp_pos _).le, mul_right_comm,
      ← EReal.coe_mul, hx]
    congr 1
    refine Finset.sum_congr rfl fun c _ => ?_
    rw [coe_mul_sum _ _ (Real.exp_pos _).le]
    refine Finset.sum_congr rfl fun j _ => ?_
    rw [hS, hm', exp_sub (ht _ _), EReal.coe_mul]
    simp only [mul_assoc]

theorem inv_finish {E : Fin 128 → ℝ} {A : Fin 16 → Fin 1024 → EReal} {acc : Vec Ideal S16x1024 .f32} {m l : Vec Ideal S128x128 .f32}
    (h : Inv E A acc m l) (hE : ∀ r, 0 < E r) (q : Fin 16) (k : Fin 1024) :
    finish acc l (ix3 0 q k) = A q k * ((1 / E (hrow (hcol k) q) : ℝ) : EReal) := by
  obtain ⟨M, hm, ⟨L, hl, hL⟩, ha⟩ := h
  rw [finish_apply, ha]
  simp only [hl]
  rw [← coe_sum, hL, one_div (mul_ne_zero (Real.exp_pos _).ne' (hE _).ne'), mul_comm _ (A q k), mul_assoc, ← EReal.coe_mul]
  congr 2
  field_simp

end Cert.KernelIdeal.Step
-- ==== Proof.Attn.lean ====
/-
  The attention both programs compute, written over the arguments, and the sums it is made of.
  A row `r` is a query: head `r / 16`, group `r / 4 % 4`, new token `r % 4`.
-/
module

public import proofs.«01_k».proof.Proof.Softmax

@[expose] public section

noncomputable section

namespace Cert.Attn

open Idealize.ShloMosaic Cert.Softmax

/-- The arguments as functions of their coordinates. -/
structure Args where
  x : Fin 64 → Fin 4 → Fin 4096 → EReal
  kn : Fin 64 → Fin 4 → Fin 8 → Fin 128 → EReal
  vn : Fin 64 → Fin 4 → Fin 8 → Fin 128 → EReal
  ck : Fin 64 → Fin 4096 → Fin 8 → Fin 64 → BitVec 8
  cv : Fin 64 → Fin 4096 → Fin 8 → Fin 64 → BitVec 8
  kt : Fin 8 → Fin 128 → Fin 16 → BitVec 16
  vt : Fin 8 → Fin 128 → Fin 16 → BitVec 16
  vs : Fin 64 → Fin 4096 → Fin 8 → EReal
  len : Fin 64 → BitVec 32
  oi : Fin 64 → Fin 4096 → Fin 8 → Fin 4 → BitVec 32
  ov : Fin 64 → Fin 4096 → Fin 8 → Fin 4 → BitVec 16

/-- The four bits of a channel's code. -/
def code (v : Fin 64 → BitVec 8) (ch : Fin 128) : BitVec 32 :=
  ((v ⟨ch.val / 2, by omega⟩).setWidth 32 >>> (4 * (ch.val % 2))) &&& 15#32

/-- The table word of a channel. -/
def word (t : Fin 128 → Fin 16 → BitVec 16) (v : Fin 64 → BitVec 8) (ch : Fin 128) : BitVec 16 :=
  t ch ⟨(code v ch).toNat % 16, by omega⟩

/-- The factor on the scores. -/
def scale : EReal := Ideal.ofBits .f32 0x3DB504F3#32

/-- The head of a row. -/
def head (r : Fin 128) : Fin 8 := ⟨r.val / 16, by omega⟩
/-- The new token of a row. -/
def step (r : Fin 128) : Fin 4 := ⟨r.val % 4, by omega⟩
/-- The column of `x` a row's channel is in. -/
def qcol (r d : Fin 128) : Fin 4096 := ⟨r.val / 4 * 128 + d.val, by omega⟩

namespace Args

variable (a : Args)

/-- A decoded key: the table's word unless an outlier names the channel, the last outlier first. -/
def keyWord (b : Fin 64) (p : Fin 4096) (h : Fin 8) (ch : Fin 128) : BitVec 16 :=
  if a.oi b p h 3 = BitVec.ofNat 32 ch.val then a.ov b p h 3
  else if a.oi b p h 2 = BitVec.ofNat 32 ch.val then a.ov b p h 2
  else if a.oi b p h 1 = BitVec.ofNat 32 ch.val then a.ov b p h 1
  else if a.oi b p h 0 = BitVec.ofNat 32 ch.val then a.ov b p h 0
  else word (a.kt h) (a.ck b p h) ch

def key (b : Fin 64) (p : Fin 4096) (h : Fin 8) (ch : Fin 128) : EReal := Ideal.ofBits .bf16 (a.keyWord b p h ch)

/-- A decoded value. -/
def val (b : Fin 64) (p : Fin 4096) (h : Fin 8) (ch : Fin 128) : EReal :=
  Ideal.ofBits .bf16 (word (a.vt h) (a.cv b p h) ch)

/-- The product of a row's query with a key. -/
def dot (b : Fin 64) (r : Fin 128) (f : Fin 128 → EReal) : EReal := ∑ d, a.x b (step r) (qcol r d) * f d

/-- The score of a cached position: masked past the batch's length. -/
def scoreC (b : Fin 64) (r : Fin 128) (p : Fin 4096) : EReal :=
  if (BitVec.ofNat 32 p.val).slt (a.len b) then a.dot b r (a.key b p (head r)) * scale else ⊥

/-- The score of a new token: masked after the row's own. -/
def scoreN (b : Fin 64) (r : Fin 128) (j : Fin 4) : EReal :=
  if j.val ≤ r.val % 4 then a.dot b r (a.kn b j (head r)) * scale else ⊥

/-- The sum of the weights. -/
def E (b : Fin 64) (r : Fin 128) : ℝ := ∑ j, eps (a.scoreN b r j) + ∑ p, eps (a.scoreC b r p)

/-- The weighted sum of the values. -/
def num (b : Fin 64) (r ch : Fin 128) : EReal :=
  ∑ j, (eps (a.scoreN b r j) : EReal) * a.vn b j (head r) ch
    + ∑ p, ((eps (a.scoreC b r p) : EReal) * a.vs b p (head r)) * a.val b p (head r) ch

/-- The attention's output for a row and a channel. -/
def out (b : Fin 64) (r ch : Fin 128) : EReal := a.num b r ch * ((1 / a.E b r : ℝ) : EReal)

/-- What is assumed of the arguments: finite queries and keys, outlier channels in sixteen bits. -/
structure Fine : Prop where
  x : ∀ b s k, ∃ y : ℝ, a.x b s k = (y : EReal)
  kn : ∀ b j h d, ∃ y : ℝ, a.kn b j h d = (y : EReal)
  kt : ∀ h d e, ∃ y : ℝ, Ideal.ofBits .bf16 (a.kt h d e) = (y : EReal)
  ov : ∀ b p h o, ∃ y : ℝ, Ideal.ofBits .bf16 (a.ov b p h o) = (y : EReal)
  oi : ∀ b p h o, (a.oi b p h o).toNat < 65536

end Args

theorem scale_real : ∃ y : ℝ, scale = (y : EReal) := by
  unfold scale
  refine ⟨11863283 * (2 ^ 27)⁻¹, ?_⟩
  simp [Ideal.ofBits, Ideal.ieee]

variable {a : Args} (hf : a.Fine)

theorem real_sum {ι : Type} (s : Finset ι) (f : ι → EReal) (h : ∀ i, ∃ y : ℝ, f i = (y : EReal)) : ∃ y : ℝ, ∑ i ∈ s, f i = (y : EReal) := by
  choose g hg using h
  exact ⟨∑ i ∈ s, g i, by rw [coe_sum]; exact Finset.sum_congr rfl fun i _ => hg i⟩

theorem real_mul {x y : EReal} (hx : ∃ u : ℝ, x = (u : EReal)) (hy : ∃ u : ℝ, y = (u : EReal)) : ∃ u : ℝ, x * y = (u : EReal) := by
  obtain ⟨u, rfl⟩ := hx
  obtain ⟨v, rfl⟩ := hy
  exact ⟨u * v, (EReal.coe_mul u v).symm⟩

include hf

theorem dot_real (b : Fin 64) (r : Fin 128) (f : Fin 128 → EReal) (h : ∀ d, ∃ y : ℝ, f d = (y : EReal)) : ∃ y : ℝ, a.dot b r f = (y : EReal) :=
  real_sum _ _ fun d => real_mul (hf.x _ _ _) (h d)

theorem key_real (b : Fin 64) (p : Fin 4096) (h : Fin 8) (ch : Fin 128) : ∃ y : ℝ, a.key b p h ch = (y : EReal) := by
  unfold Args.key Args.keyWord word
  split_ifs
  · exact hf.ov _ _ _ _
  · exact hf.ov _ _ _ _
  · exact hf.ov _ _ _ _
  · exact hf.ov _ _ _ _
  · exact hf.kt _ _ _

theorem scoreC_ne_top (b : Fin 64) (r : Fin 128) (p : Fin 4096) : a.scoreC b r p ≠ ⊤ := by
  unfold Args.scoreC
  split_ifs
  · obtain ⟨y, hy⟩ := real_mul (dot_real hf b r _ fun d => key_real hf b p (head r) d) scale_real
    rw [hy]
    exact EReal.coe_ne_top y
  · exact bot_ne_top

theorem scoreN_real (b : Fin 64) (r : Fin 128) (j : Fin 4) : ∃ y : ℝ, a.dot b r (a.kn b j (head r)) * scale = (y : EReal) :=
  real_mul (dot_real hf b r _ fun d => hf.kn b j (head r) d) scale_real

theorem scoreN_ne_top (b : Fin 64) (r : Fin 128) (j : Fin 4) : a.scoreN b r j ≠ ⊤ := by
  unfold Args.scoreN
  split_ifs
  · obtain ⟨y, hy⟩ := scoreN_real hf b r j
    rw [hy]
    exact EReal.coe_ne_top y
  · exact bot_ne_top

theorem scoreN_zero (b : Fin 64) (r : Fin 128) : a.scoreN b r 0 ≠ ⊥ := by
  unfold Args.scoreN
  rw [if_pos (show (0 : Fin 4).val ≤ r.val % 4 from Nat.zero_le _)]
  obtain ⟨y, hy⟩ := scoreN_real hf b r 0
  rw [hy]
  exact EReal.coe_ne_bot y

theorem E_pos (b : Fin 64) (r : Fin 128) : 0 < a.E b r :=
  add_pos_of_pos_of_nonneg
    (lt_of_lt_of_le (eps_pos (scoreN_zero hf b r))
      (Finset.single_le_sum (f := fun j => eps (a.scoreN b r j)) (fun j _ => eps_nonneg _) (Finset.mem_univ 0)))
    (Finset.sum_nonneg fun p _ => eps_nonneg _)

omit hf

/-! ### An outlier's packed word -/

/-- Packing a channel below a value's bits and reading both back. -/
theorem packed (o : BitVec 32) (ho : o.toNat < 65536) (v : BitVec 16) (ch : Nat) (hch : ch < 128) :
    ((o ||| (v.signExtend 32 <<< 16)).setWidth 16 = BitVec.ofNat 16 ch ↔ o = BitVec.ofNat 32 ch)
    ∧ ((o ||| (v.signExtend 32 <<< 16)) >>> 16).setWidth 16 = v := by
  obtain ⟨y, rfl⟩ : ∃ y : BitVec 16, o = y.setWidth 32 := ⟨o.setWidth 16, by
    apply BitVec.eq_of_toNat_eq
    simp only [BitVec.toNat_setWidth]
    omega⟩
  have h1 : ((y.setWidth 32 ||| (v.signExtend 32 <<< 16)).setWidth 16 : BitVec 16) = y := by
    ext i hi
    have h32 : i < 32 := by omega
    simp [BitVec.getElem_setWidth, hi, BitVec.getLsbD_eq_getElem, h32]
  refine ⟨?_, ?_⟩
  · rw [h1]
    constructor
    · rintro rfl
      apply BitVec.eq_of_toNat_eq
      simp only [BitVec.toNat_setWidth, BitVec.toNat_ofNat]
      omega
    · intro h
      have := congrArg BitVec.toNat h
      apply BitVec.eq_of_toNat_eq
      simp only [BitVec.toNat_setWidth, BitVec.toNat_ofNat] at this ⊢
      omega
  · ext i hi
    have h32 : 16 + i < 32 := by omega
    have h16 : ¬ (16 + i < 16) := by omega
    simp [BitVec.getLsbD_signExtend, BitVec.getElem_setWidth, hi, h32, BitVec.getLsbD_eq_getElem, h16]
    rw [BitVec.getElem_signExtend, dif_pos hi]

/-! ### Sums over columns and over tiles -/

/-- The channel of a column. -/
def chan (k : Fin 1024) : Fin 128 := ⟨k.val % 16 * 8 + k.val / 128, by omega⟩

/-- The column of a head's channel. -/
def col (h : Fin 8) (d : Fin 128) : Fin 1024 := ⟨d.val % 8 * 128 + h.val * 16 + d.val / 8, by omega⟩

theorem chan_col (h : Fin 8) (d : Fin 128) : chan (col h d) = d := by
  apply Fin.ext
  show (d.val % 8 * 128 + h.val * 16 + d.val / 8) % 16 * 8 + (d.val % 8 * 128 + h.val * 16 + d.val / 8) / 128 = d.val
  have h1 := d.isLt
  have h2 := h.isLt
  have e1 : (d.val % 8 * 128 + h.val * 16 + d.val / 8) % 16 = d.val / 8 := by omega
  have e2 : (d.val % 8 * 128 + h.val * 16 + d.val / 8) / 128 = d.val % 8 := by omega
  rw [e1, e2]
  omega

/-- A sum over all columns of what is nothing off one head's is the sum over the head's channels. -/
theorem collapse (h : Fin 8) (F : Fin 1024 → EReal) :
    (∑ k : Fin 1024, if h.val = k.val % 128 / 16 then F k else 0) = ∑ d : Fin 128, F (col h d) := by
  rw [← Finset.sum_filter]
  symm
  refine Finset.sum_bij (fun d _ => col h d) (fun d _ => ?_) (fun d _ d' _ e => ?_) (fun k hk => ?_) (fun d _ => rfl)
  · refine Finset.mem_filter.mpr ⟨Finset.mem_univ _, ?_⟩
    show h.val = (d.val % 8 * 128 + h.val * 16 + d.val / 8) % 128 / 16
    have h1 := d.isLt
    have h2 := h.isLt
    have e1 : (d.val % 8 * 128 + h.val * 16 + d.val / 8) % 128 = h.val * 16 + d.val / 8 := by omega
    rw [e1]
    omega
  · rw [← chan_col h d, ← chan_col h d', e]
  · have e := (Finset.mem_filter.mp hk).2
    refine ⟨chan k, Finset.mem_univ _, Fin.ext ?_⟩
    show (k.val % 16 * 8 + k.val / 128) % 8 * 128 + h.val * 16 + (k.val % 16 * 8 + k.val / 128) / 8 = k.val
    have h1 := k.isLt
    have e1 : (k.val % 16 * 8 + k.val / 128) % 8 = k.val / 128 := by omega
    have e2 : (k.val % 16 * 8 + k.val / 128) / 8 = k.val % 16 := by omega
    rw [e1, e2]
    omega

/-- The position of a tile's token. -/
def at_ (u : Nat) (c : Fin 4) (j : Fin 128) : Fin 4096 := ⟨(512 * u + 128 * c.val + j.val) % 4096, Nat.mod_lt _ (by decide)⟩

/-- The sum over the first `T` tiles. -/
def upto {M : Type} [AddCommMonoid M] (F : Fin 4096 → M) (T : Nat) : M :=
  ∑ u ∈ Finset.range T, ∑ c : Fin 4, ∑ j : Fin 128, F (at_ u c j)

theorem upto_zero {M : Type} [AddCommMonoid M] (F : Fin 4096 → M) : upto F 0 = 0 := Finset.sum_range_zero _

theorem upto_succ {M : Type} [AddCommMonoid M] (F : Fin 4096 → M) (T : Nat) :
    upto F (T + 1) = upto F T + ∑ c : Fin 4, ∑ j : Fin 128, F (at_ T c j) := Finset.sum_range_succ _ _

/-- All eight tiles are the whole cache. -/
theorem upto_all {M : Type} [AddCommMonoid M] (F : Fin 4096 → M) : upto F 8 = ∑ p, F p := by
  unfold upto
  rw [Finset.sum_range fun u => ∑ c : Fin 4, ∑ j : Fin 128, F (at_ u c j)]
  simp only [← Fintype.sum_prod_type']
  refine Finset.sum_bij (fun (x : Fin 8 × Fin 4 × Fin 128) _ => at_ x.1.val x.2.1 x.2.2) (fun _ _ => Finset.mem_univ _) ?_ ?_ (fun _ _ => rfl)
  · rintro ⟨u, c, j⟩ - ⟨u', c', j'⟩ - e
    have e' : (512 * u.val + 128 * c.val + j.val) % 4096 = (512 * u'.val + 128 * c'.val + j'.val) % 4096 := congrArg Fin.val e
    have hu : u = u' := Fin.ext (by omega)
    have hc : c = c' := Fin.ext (by omega)
    have hj : j = j' := Fin.ext (by omega)
    rw [hu, hc, hj]
  · intro p _
    refine ⟨(⟨p.val / 512, by omega⟩, ⟨p.val % 512 / 128, by omega⟩, ⟨p.val % 128, by omega⟩), Finset.mem_univ _, Fin.ext ?_⟩
    show (512 * (p.val / 512) + 128 * (p.val % 512 / 128) + p.val % 128) % 4096 = p.val
    omega

end Cert.Attn

end
-- ==== Proof.Reach.lean ====
/-
  Which positions a tile holds: one with a filled position is read in its own place, and one without holds no filled position.
-/
module

public import proofs.«01_k».proof.Proof.Words

@[expose] public section

namespace Cert.Words

open Idealize.ShloMosaic

theorem isInt (x : BitVec 32) (e : ℤ) : Affine.IsInt x e ↔ x.toInt = e := by
  unfold Affine.IsInt
  exact Iff.rfl

theorem toInt_small {k : ℕ} (h : k < 2 ^ 31) : (BitVec.ofNat 32 k).toInt = k := by
  have e : (BitVec.ofNat 32 k).toNat = k := by rw [BitVec.toNat_ofNat]; omega
  rw [BitVec.toInt_eq_toNat_of_lt (by omega), e]

theorem slt_small {k : ℕ} (h : k < 2 ^ 31) (n : BitVec 32) : (BitVec.ofNat 32 k).slt n = true ↔ (k : ℤ) < n.toInt := by
  rw [BitVec.slt_eq_decide, decide_eq_true_iff, toInt_small h]

/-- The word a tile's start and a token's place in it add to. -/
theorem at_word (T j : ℕ) : BitVec.ofNat 32 T * 512#32 + BitVec.ofNat 32 j = BitVec.ofNat 32 (512 * T + j) := by
  rw [BitVec.ofNat_add, BitVec.ofNat_mul, BitVec.mul_comm]

/-- The test a grid point makes. -/
theorem active_iff (T : ℕ) (hT : T < 8) (n : BitVec 32) :
    Scalar.cmpi .ne (Scalar.extui (Scalar.cmpi .slt (Scalar.muli (BitVec.ofNat 32 T) 512#32) n)) 0#32 = 1#1 ↔ (512 * T : ℤ) < n.toInt := by
  have e : Scalar.muli (BitVec.ofNat 32 T) 512#32 = BitVec.ofNat 32 (512 * T) := by
    show BitVec.ofNat 32 T * 512#32 = _
    rw [BitVec.ofNat_mul, BitVec.mul_comm]
  have h := slt_small (k := 512 * T) (by omega) n
  rw [e]
  rw [Nat.cast_mul] at h
  refine Iff.trans ?_ h
  show IntOp.cmpi .ne ((IntOp.cmpi .slt (BitVec.ofNat 32 (512 * T)) n).setWidth 32) 0#32 = 1#1 ↔ _
  unfold IntOp.cmpi
  cases h' : (BitVec.ofNat 32 (512 * T)).slt n <;> simp [h']

/-- An active point reads its own tile. -/
theorem tile_active (T : ℕ) (hT : T < 8) (n : BitVec 32) (h : (512 * T : ℤ) < n.toInt) :
    (Scalar.minsi (BitVec.ofNat 32 T) (Scalar.maxsi (Scalar.divsi (Scalar.subi n 1#32) 512#32) 0#32)).toNat = T := by
  have hn : n.toInt < 2147483648 := BitVec.toInt_lt (x := n)
  have hs : (Scalar.subi n 1#32).toInt = n.toInt - 1 := by
    show (n - 1#32).toInt = _
    rw [BitVec.toInt_sub]
    have : (1#32 : BitVec 32).toInt = 1 := rfl
    rw [this]
    refine Int.bmod_eq_of_le ?_ ?_
    · show -((4294967296 : ℤ) / 2) ≤ _
      omega
    · show _ < ((4294967296 : ℤ) + 1) / 2
      omega
  have hd : (Scalar.divsi (Scalar.subi n 1#32) 512#32).toInt = (n.toInt - 1) / 512 := by
    have := Affine.divsi (a := Scalar.subi n 1#32) (b := 512#32) (e := (n.toInt - 1) / 512) (ea := n.toInt - 1) (eb := 512)
      ((isInt _ _).mpr hs) ((isInt _ _).mpr rfl) ⟨rfl, by omega, by omega⟩
    exact (isInt _ _).mp this
  have hm : Scalar.maxsi (Scalar.divsi (Scalar.subi n 1#32) 512#32) 0#32 = Scalar.divsi (Scalar.subi n 1#32) 512#32 ∨
      (Scalar.maxsi (Scalar.divsi (Scalar.subi n 1#32) 512#32) 0#32 = 0#32 ∧ (n.toInt - 1) / 512 ≤ 0) := by
    simp only [Scalar.maxsi, IntOp.maxsi, BitVec.slt_eq_decide, decide_eq_true_eq, hd]
    have h0 : (0#32 : BitVec 32).toInt = 0 := rfl
    rw [h0]
    split_ifs with hc
    · exact Or.inl rfl
    · exact Or.inr ⟨rfl, by omega⟩
  have hT' : (BitVec.ofNat 32 T).toNat = T := by rw [BitVec.toNat_ofNat]; omega
  have hTi := toInt_small (k := T) (by omega)
  rcases hm with hm | ⟨hm, hz⟩
  · rw [hm]
    simp only [Scalar.minsi, IntOp.minsi, BitVec.slt_eq_decide, decide_eq_true_eq, hd, hTi]
    split_ifs with hc
    · exact hT'
    · have e : (n.toInt - 1) / 512 = T := by omega
      rw [e] at hd
      have : Scalar.divsi (Scalar.subi n 1#32) 512#32 = BitVec.ofNat 32 T := BitVec.eq_of_toInt_eq (hd.trans hTi.symm)
      rw [this, hT']
  · rw [hm]
    have hT0 : T = 0 := by omega
    subst hT0
    rfl

end Cert.Words
-- ==== Proof.Host.lean ====
/-
  The windows' arrays at an index, in terms of the arguments.
-/
module

public import proofs.«01_k».proof.Proof.Gen.KernelIdeal.Frame.Runs
public import Idealize.ShloMosaic.Lib.Pointwise
public import Idealize.ShloMosaic.Lib.StableHlo.Run

@[expose] public section

set_option maxRecDepth 16384

noncomputable section

namespace Cert.KernelIdeal.Host

open Idealize.ShloMosaic Idealize.ShloMosaic.StableHlo Cert.KernelIdeal Cert.KernelIdeal.Gen

variable (m : (ℓ : Loc nD τ sig) → Buf (Elt Ideal) ℓ) (c : Dev nD)

/-! ### The arrays as the operations' terms -/

/-- The queries, a row per head and token. -/
def queries (X : Vec Ideal S64x4x4096 .bf16) : Vec Ideal S64x128x128 .bf16 :=
  shapeCast S64x128x128 (transpose S64x32x4x128 [0, 2, 1, 3] (shapeCast S64x4x32x128 X shapeCasts_S64x4x4096_S64x4x32x128) transposes_S64x4x32x128_S64x32x4x128_0_2_1_3) shapeCasts_S64x32x4x128_S64x128x128

/-- A table, by nibble, code and lane. -/
def table (X : Vec Ideal S8x128x16 .i16) : Vec Ideal S8x16x128 .i16 :=
  shapeCast S8x16x128 (transpose S8x16x8x16 [2, 3, 0, 1] (shapeCast S8x16x8x16 X shapeCasts_S8x128x16_S8x16x8x16) transposes_S8x16x8x16_S8x16x8x16_2_3_0_1) shapeCasts_S8x16x8x16_S8x16x128

/-- The new tokens' rows, column by column, padded to sixteen rows. -/
def newRows (X : Vec Ideal S64x4x8x128 .bf16) : Vec Ideal S64x16x1024 .bf16 :=
  pad S64x16x1024 ![0, 0, 0] ![0, 12, 0] ![0, 0, 0] (shapeCast S64x4x1024 (transpose S64x4x8x8x16 [0, 1, 4, 2, 3] (shapeCast S64x4x8x16x8 X
    shapeCasts_S64x4x8x128_S64x4x8x16x8) transposes_S64x4x8x16x8_S64x4x8x8x16_0_1_4_2_3) shapeCasts_S64x4x8x8x16_S64x4x1024)
    (sitofp .bf16 (constantI S_ 32 0#32) : FVec Ideal S_ .bf16) pads_S64x4x1024_S64x16x1024_000_0120_000 h_S_

set_option maxHeartbeats 2000000 in
theorem v2_eq : (V m c main_v2 : Vec Ideal S64x128x128 .bf16) = queries (m ((c.tc : Thread nD τ).loc main_arg0)) := by
  simp only [V, V0, hostOps0, hostOps0_1, hostOps0_2, hostOps0_3, hostOps0_4, hostOps0_5, hostOps0_6, hostOps0_7, hostOps0_8, List.flatten_cons, List.flatten_nil, List.append_nil, List.cons_append,
    List.nil_append, TRef.nullary, TRef.unary, TRef.binary, TRef.ternary, TRef.toBuf, TRef.ofBuf, cast_eq]
  after_results_simp
  try rfl

set_option maxHeartbeats 2000000 in
theorem v24_eq : (V m c main_v24 : Vec Ideal S64x8x64x4096 .i8) = transpose S64x8x64x4096 [0, 2, 3, 1] (m ((c.tc : Thread nD τ).loc main_arg3)) transposes_S64x4096x8x64_S64x8x64x4096_0_2_3_1 := by
  simp only [V, V0, hostOps0, hostOps0_1, hostOps0_2, hostOps0_3, hostOps0_4, hostOps0_5, hostOps0_6, hostOps0_7, hostOps0_8, List.flatten_cons, List.flatten_nil, List.append_nil, List.cons_append,
    List.nil_append, TRef.nullary, TRef.unary, TRef.binary, TRef.ternary, TRef.toBuf, TRef.ofBuf, cast_eq]
  after_results_simp
  try rfl

set_option maxHeartbeats 2000000 in
theorem v25_eq : (V m c main_v25 : Vec Ideal S64x8x64x4096 .i8) = transpose S64x8x64x4096 [0, 2, 3, 1] (m ((c.tc : Thread nD τ).loc main_arg4)) transposes_S64x4096x8x64_S64x8x64x4096_0_2_3_1 := by
  simp only [V, V0, hostOps0, hostOps0_1, hostOps0_2, hostOps0_3, hostOps0_4, hostOps0_5, hostOps0_6, hostOps0_7, hostOps0_8, List.flatten_cons, List.flatten_nil, List.append_nil, List.cons_append,
    List.nil_append, TRef.nullary, TRef.unary, TRef.binary, TRef.ternary, TRef.toBuf, TRef.ofBuf, cast_eq]
  after_results_simp
  try rfl

set_option maxHeartbeats 2000000 in
theorem v26_eq : (V m c main_v26 : Vec Ideal S64x8x4096 .f32) = transpose S64x8x4096 [0, 2, 1] (m ((c.tc : Thread nD τ).loc main_arg7)) transposes_S64x4096x8_S64x8x4096_0_2_1 := by
  simp only [V, V0, hostOps0, hostOps0_1, hostOps0_2, hostOps0_3, hostOps0_4, hostOps0_5, hostOps0_6, hostOps0_7, hostOps0_8, List.flatten_cons, List.flatten_nil, List.append_nil, List.cons_append,
    List.nil_append, TRef.nullary, TRef.unary, TRef.binary, TRef.ternary, TRef.toBuf, TRef.ofBuf, cast_eq]
  after_results_simp
  try rfl

set_option maxHeartbeats 2000000 in
theorem v27_eq : (V m c main_v27 : Vec Ideal S64x8x4x4096 .i32) = transpose S64x8x4x4096 [0, 2, 3, 1] (m ((c.tc : Thread nD τ).loc main_arg9)) transposes_S64x4096x8x4_S64x8x4x4096_0_2_3_1 := by
  simp only [V, V0, hostOps0, hostOps0_1, hostOps0_2, hostOps0_3, hostOps0_4, hostOps0_5, hostOps0_6, hostOps0_7, hostOps0_8, List.flatten_cons, List.flatten_nil, List.append_nil, List.cons_append,
    List.nil_append, TRef.nullary, TRef.unary, TRef.binary, TRef.ternary, TRef.toBuf, TRef.ofBuf, cast_eq]
  after_results_simp
  try rfl

set_option maxHeartbeats 2000000 in
theorem v28_eq : (V m c main_v28 : Vec Ideal S64x8x4x4096 .i16) = transpose S64x8x4x4096 [0, 2, 3, 1] (m ((c.tc : Thread nD τ).loc main_arg10)) transposes_S64x4096x8x4_S64x8x4x4096_0_2_3_1 := by
  simp only [V, V0, hostOps0, hostOps0_1, hostOps0_2, hostOps0_3, hostOps0_4, hostOps0_5, hostOps0_6, hostOps0_7, hostOps0_8, List.flatten_cons, List.flatten_nil, List.append_nil, List.cons_append,
    List.nil_append, TRef.nullary, TRef.unary, TRef.binary, TRef.ternary, TRef.toBuf, TRef.ofBuf, cast_eq]
  after_results_simp
  try rfl

set_option maxHeartbeats 2000000 in
theorem v31_eq : (V m c main_v31 : Vec Ideal S8x16x128 .i16) = table (m ((c.tc : Thread nD τ).loc main_arg5)) := by
  simp only [V, V0, hostOps0, hostOps0_1, hostOps0_2, hostOps0_3, hostOps0_4, hostOps0_5, hostOps0_6, hostOps0_7, hostOps0_8, List.flatten_cons, List.flatten_nil, List.append_nil, List.cons_append,
    List.nil_append, TRef.nullary, TRef.unary, TRef.binary, TRef.ternary, TRef.toBuf, TRef.ofBuf, cast_eq]
  after_results_simp
  try rfl

set_option maxHeartbeats 2000000 in
theorem v34_eq : (V m c main_v34 : Vec Ideal S8x16x128 .i16) = table (m ((c.tc : Thread nD τ).loc main_arg6)) := by
  simp only [V, V0, hostOps0, hostOps0_1, hostOps0_2, hostOps0_3, hostOps0_4, hostOps0_5, hostOps0_6, hostOps0_7, hostOps0_8, List.flatten_cons, List.flatten_nil, List.append_nil, List.cons_append,
    List.nil_append, TRef.nullary, TRef.unary, TRef.binary, TRef.ternary, TRef.toBuf, TRef.ofBuf, cast_eq]
  after_results_simp
  try rfl

set_option maxHeartbeats 2000000 in
theorem v19_eq : (V m c main_v19 : Vec Ideal S64x16x1024 .bf16) = newRows (m ((c.tc : Thread nD τ).loc main_arg1)) := by
  simp only [V, V0, hostOps0, hostOps0_1, hostOps0_2, hostOps0_3, hostOps0_4, hostOps0_5, hostOps0_6, hostOps0_7, hostOps0_8, List.flatten_cons, List.flatten_nil, List.append_nil, List.cons_append,
    List.nil_append, TRef.nullary, TRef.unary, TRef.binary, TRef.ternary, TRef.toBuf, TRef.ofBuf, cast_eq]
  after_results_simp
  unfold newRows
  rfl

set_option maxHeartbeats 2000000 in
theorem v23_eq : (V m c main_v23 : Vec Ideal S64x16x1024 .bf16) = newRows (m ((c.tc : Thread nD τ).loc main_arg2)) := by
  simp only [V, V0, hostOps0, hostOps0_1, hostOps0_2, hostOps0_3, hostOps0_4, hostOps0_5, hostOps0_6, hostOps0_7, hostOps0_8, List.flatten_cons, List.flatten_nil, List.append_nil, List.cons_append,
    List.nil_append, TRef.nullary, TRef.unary, TRef.binary, TRef.ternary, TRef.toBuf, TRef.ofBuf, cast_eq]
  after_results_simp
  unfold newRows
  rfl

/-! ### At an index -/

theorem queries_apply (X : Vec Ideal S64x4x4096 .bf16) (b : Fin 64) (r k : Fin 128) :
    queries X (ix3 b r k) = X (ix3 b (⟨r.val % 4, by omega⟩ : Fin 4) (⟨r.val / 4 * 128 + k.val, by omega⟩ : Fin 4096)) := by
  pointwise [queries]

theorem table_apply (X : Vec Ideal S8x128x16 .i16) (n : Fin 8) (e : Fin 16) (l : Fin 128) :
    table X (ix3 n e l) = X (ix3 (⟨l.val / 16, by omega⟩ : Fin 8) (⟨l.val % 16 * 8 + n.val, by omega⟩ : Fin 128) e) := by
  pointwise [table]

theorem newRows_apply (X : Vec Ideal S64x4x8x128 .bf16) (b : Fin 64) (j : Fin 16) (k : Fin 1024) :
    newRows X (ix3 b j k) = if h : j.val < 4 then X (ix4 b (⟨j.val, h⟩ : Fin 4) (⟨k.val % 128 / 16, by omega⟩ : Fin 8)
      (⟨k.val % 16 * 8 + k.val / 128, by omega⟩ : Fin 128)) else 0 := by
  have h0 : (FloatOps.sitofp .bf16 0#32 : Ideal .bf16) = 0 := by
    show (((0#32 : BitVec 32).toInt : ℝ) : EReal) = 0
    simp
  have hk : (⟨k.val / 16 % 8, by omega⟩ : Fin 8) = ⟨k.val % 128 / 16, by omega⟩ := Fin.ext (by show k.val / 16 % 8 = k.val % 128 / 16; omega)
  unfold newRows
  pointwise
  rw [h0]
  split
  · rw [hk]
  · rfl

/-- The channel of a column, as the host computes it. -/
theorem channel (k : Fin 1024) (d : Fin 128) (w : BitVec 32) (hw : w = BitVec.ofNat 32 (k.val % 16 * 8 + k.val / 128)) :
    (FloatOps.uitofp .bf16 (IntOp.cmpi .eq (BitVec.ofNat 32 d.val) w) : Ideal .bf16) = if d.val = k.val % 16 * 8 + k.val / 128 then 1 else 0 := by
  rw [hw]
  have hd := d.isLt
  have hk := k.isLt
  by_cases h : d.val = k.val % 16 * 8 + k.val / 128
  · rw [if_pos h, h]
    show ((((IntOp.cmpi .eq (BitVec.ofNat 32 _) (BitVec.ofNat 32 _)).toNat : ℕ) : ℝ) : EReal) = 1
    simp [IntOp.cmpi]
  · rw [if_neg h]
    have hne : ¬BitVec.ofNat 32 d.val = BitVec.ofNat 32 (k.val % 16 * 8 + k.val / 128) := fun e => h (by
      have := congrArg BitVec.toNat e
      simp only [BitVec.toNat_ofNat] at this
      omega)
    show ((((IntOp.cmpi .eq (BitVec.ofNat 32 _) (BitVec.ofNat 32 _)).toNat : ℕ) : ℝ) : EReal) = 0
    simp [IntOp.cmpi, hne]

set_option maxHeartbeats 2000000 in
theorem v15_apply (d : Fin 128) (k : Fin 1024) :
    (V m c main_v15 : Vec Ideal S128x1024 .bf16) (ix2 d k) = if d.val = k.val % 16 * 8 + k.val / 128 then (1 : EReal) else (0 : EReal) := by
  simp only [V, V0, hostOps0, hostOps0_1, hostOps0_2, hostOps0_3, hostOps0_4, hostOps0_5, hostOps0_6, hostOps0_7, hostOps0_8, List.flatten_cons, List.flatten_nil, List.append_nil, List.cons_append,
    List.nil_append, TRef.nullary, TRef.unary, TRef.binary, TRef.ternary, TRef.toBuf, TRef.ofBuf, cast_eq]
  after_results_simp
  pointwise
  refine channel k d _ ?_
  revert k
  decide +kernel

theorem codes_apply (X : Vec Ideal S64x4096x8x64 .i8) (b : Fin 64) (h : Fin 8) (w : Fin 64) (p : Fin 4096) :
    transpose S64x8x64x4096 [0, 2, 3, 1] X transposes_S64x4096x8x64_S64x8x64x4096_0_2_3_1 (ix4 b h w p) = X (ix4 b p h w) := by
  pointwise

theorem scale_apply (X : Vec Ideal S64x4096x8 .f32) (b : Fin 64) (h : Fin 8) (p : Fin 4096) :
    transpose S64x8x4096 [0, 2, 1] X transposes_S64x4096x8_S64x8x4096_0_2_1 (ix3 b h p) = X (ix3 b p h) := by
  pointwise

theorem idx_apply (X : Vec Ideal S64x4096x8x4 .i32) (b : Fin 64) (h : Fin 8) (o : Fin 4) (p : Fin 4096) :
    transpose S64x8x4x4096 [0, 2, 3, 1] X transposes_S64x4096x8x4_S64x8x4x4096_0_2_3_1 (ix4 b h o p) = X (ix4 b p h o) := by
  pointwise

theorem val_apply (X : Vec Ideal S64x4096x8x4 .i16) (b : Fin 64) (h : Fin 8) (o : Fin 4) (p : Fin 4096) :
    transpose S64x8x4x4096 [0, 2, 3, 1] X transposes_S64x4096x8x4_S64x8x4x4096_0_2_3_1 (ix4 b h o p) = X (ix4 b p h o) := by
  pointwise

end Cert.KernelIdeal.Host
-- ==== Proof.Rows.lean ====
/-
  What a grid point's operands hold, in terms of the attention of its batch: its queries, the new tokens' scores, and the scores,
  scales and values of its tile.
-/
module

public import proofs.«01_k».proof.Proof.Outs
public import proofs.«01_k».proof.Proof.Online
public import proofs.«01_k».proof.Proof.Attn
public import proofs.«01_k».proof.Proof.Reach
public import proofs.«01_k».proof.Proof.Host

@[expose] public section

set_option maxRecDepth 16384

noncomputable section

namespace Cert.KernelIdeal.Rows

open Idealize.ShloMosaic Idealize.ShloMosaic.TcCoe Cert.KernelIdeal Cert.KernelIdeal.Gen Cert.KernelIdeal.Step Cert.Attn Cert.Softmax

/-- The arguments, by coordinates. -/
def args (m : (ℓ : Loc nD τ sig) → Buf (Elt Ideal) ℓ) (c : Dev nD) : Args where
  x b s k := (m ((c.tc : Thread nD τ).loc main_arg0) : Vec Ideal S64x4x4096 .bf16) (ix3 b s k)
  kn b j h d := (m ((c.tc : Thread nD τ).loc main_arg1) : Vec Ideal S64x4x8x128 .bf16) (ix4 b j h d)
  vn b j h d := (m ((c.tc : Thread nD τ).loc main_arg2) : Vec Ideal S64x4x8x128 .bf16) (ix4 b j h d)
  ck b p h w := (m ((c.tc : Thread nD τ).loc main_arg3) : Vec Ideal S64x4096x8x64 .i8) (ix4 b p h w)
  cv b p h w := (m ((c.tc : Thread nD τ).loc main_arg4) : Vec Ideal S64x4096x8x64 .i8) (ix4 b p h w)
  kt h d e := (m ((c.tc : Thread nD τ).loc main_arg5) : Vec Ideal S8x128x16 .i16) (ix3 h d e)
  vt h d e := (m ((c.tc : Thread nD τ).loc main_arg6) : Vec Ideal S8x128x16 .i16) (ix3 h d e)
  vs b p h := (m ((c.tc : Thread nD τ).loc main_arg7) : Vec Ideal S64x4096x8 .f32) (ix3 b p h)
  len b := (m ((c.tc : Thread nD τ).loc main_arg8) : Vec Ideal S64 .i32) (ix1 b)
  oi b p h o := (m ((c.tc : Thread nD τ).loc main_arg9) : Vec Ideal S64x4096x8x4 .i32) (ix4 b p h o)
  ov b p h o := (m ((c.tc : Thread nD τ).loc main_arg10) : Vec Ideal S64x4096x8x4 .i16) (ix4 b p h o)

variable (m : (ℓ : Loc nD τ sig) → Buf (Elt Ideal) ℓ) (hO : Ok m) (c : Dev nD) (t : Fin (cfgM m hO).N)

/-- A row's query, laid out over the columns: nothing off the row's own head. -/
def Q (b : Fin 64) (r : Fin 128) (k : Fin 1024) : EReal :=
  if r.val / 16 = k.val % 128 / 16 then (args m c).x b (step r) (qcol r (chan k)) else 0

theorem q0_apply (r : Fin 128) (k : Fin 1024) : Outs.q0 m hO c t (ix2 r k) = Q m c (Blocks.bat t) r k := by
  refine (initQ_apply _ _ r k).trans (if_congr Iff.rfl ?_ rfl)
  have hx : ∀ d : Fin 128, (iblk m hO c 0 t : Vec Ideal S1x128x128 .bf16) (ix3 0 r d) = (args m c).x (Blocks.bat t) (step r) (qcol r d) := fun d => by
    rw [Blocks.blk0, Host.v2_eq, Host.queries_apply]
    rfl
  have hy : ∀ d : Fin 128, (iblk m hO c 10 t : Vec Ideal S128x1024 .bf16) (ix2 d k) = if d = chan k then (1 : EReal) else 0 := fun d => by
    rw [Blocks.blk10, Host.v15_apply]
    exact if_congr ⟨fun h => Fin.ext h, fun h => congrArg Fin.val h⟩ rfl rfl
  refine Eq.trans (Finset.sum_congr rfl fun d _ => congrArg₂ (fun u v : EReal => u * v) (hx d) (hy d)) ?_
  simp only [mul_ite, mul_one, mul_zero]
  rw [Finset.sum_ite_eq' Finset.univ (chan k), if_pos (Finset.mem_univ _)]

/-- A product over the columns is the product over the head's channels. -/
theorem dot_cols (b : Fin 64) (r : Fin 128) (f : Fin 1024 → EReal) (g : Fin 128 → EReal) (hg : ∀ d, f (col (head r) d) = g d) :
    ∑ k : Fin 1024, Q m c b r k * f k = (args m c).dot b r g := by
  unfold Args.dot
  have e : ∀ k : Fin 1024, Q m c b r k * f k
      = if (head r).val = k.val % 128 / 16 then (args m c).x b (step r) (qcol r (chan k)) * f k else 0 := fun k => by
    unfold Q
    show (if r.val / 16 = k.val % 128 / 16 then _ else _) * _ = if r.val / 16 = _ then _ else _
    split_ifs
    · rfl
    · exact zero_mul _
  refine (Finset.sum_congr rfl fun k _ => e k).trans ((collapse (head r) _).trans (Finset.sum_congr rfl fun d _ => ?_))
  rw [chan_col, hg]

theorem head_col (h : Fin 8) (d : Fin 128) : hcol (col h d) = h := by
  apply Fin.ext
  show (d.val % 8 * 128 + h.val * 16 + d.val / 8) % 128 / 16 = h.val
  have h1 := d.isLt
  have h2 := h.isLt
  have e1 : (d.val % 8 * 128 + h.val * 16 + d.val / 8) % 128 = h.val * 16 + d.val / 8 := by omega
  rw [e1]
  omega

theorem blk1_apply (j : Fin 16) (k : Fin 1024) : (iblk m hO c 1 t : Vec Ideal S1x16x1024 .bf16) (ix3 0 j k)
    = if h : j.val < 4 then (args m c).kn (Blocks.bat t) ⟨j.val, h⟩ (hcol k) (chan k) else 0 := by
  rw [Blocks.blk1, Host.v19_eq, Host.newRows_apply]
  rfl

theorem blk2_apply (j : Fin 16) (k : Fin 1024) : (iblk m hO c 2 t : Vec Ideal S1x16x1024 .bf16) (ix3 0 j k)
    = if h : j.val < 4 then (args m c).vn (Blocks.bat t) ⟨j.val, h⟩ (hcol k) (chan k) else 0 := by
  rw [Blocks.blk2, Host.v23_eq, Host.newRows_apply]
  rfl

/-- The masked scores of the new tokens, padded to sixteen. -/
theorem new_apply (r : Fin 128) (j : Fin 16) :
    k0_pay13 (newScores (iblk m hO c 0 t) (iblk m hO c 10 t) (iblk m hO c 1 t)) rows 4#32 (ix2 r j)
      = if h : j.val < 4 then (args m c).scoreN (Blocks.bat t) r ⟨j.val, h⟩ else ⊥ := by
  rw [masked_apply, negInf]
  by_cases h : j.val < 4
  · rw [dif_pos h]
    unfold Args.scoreN
    refine if_congr Iff.rfl ?_ rfl
    refine (newScores_apply _ _ _ r j).trans (congrArg (· * scale) ?_)
    refine Eq.trans (Finset.sum_congr rfl fun k _ => congrArg₂ (· * ·) (q0_apply m hO c t r k) (blk1_apply m hO c t j k)) ?_
    refine dot_cols m c _ r (fun k => if h : j.val < 4 then (args m c).kn (Blocks.bat t) ⟨j.val, h⟩ (hcol k) (chan k) else 0) _ fun d => ?_
    rw [dif_pos h, head_col, chan_col]
  · rw [dif_neg h, if_neg (by omega)]

/-- A code as the tile reads it. -/
theorem code_eq (v : Vec Ideal S64x4096x8x64 .i8) (x : Vec Ideal S1x8x64x512 .i8) (b : Fin 64) (p : Fin 4096) (j : Fin 512)
    (hx : ∀ h w, x (ix4 0 h w j) = v (ix4 b p h w)) (k : Fin 1024) (n : Fin 8) (l : Fin 128) (hn : n.val = k.val / 128) (hl : l.val = k.val % 128) :
    Tile.codeOf x n ⟨l.val / 16, by omega⟩ ⟨l.val % 16, by omega⟩ j = code (fun w => v (ix4 b p (hcol k) w)) (chan k) := by
  unfold Tile.codeOf code
  have hk := k.isLt
  have e1 : 4 * (l.val % 16) + n.val / 2 = (chan k).val / 2 := by
    show _ = (k.val % 16 * 8 + k.val / 128) / 2
    have e : k.val % 128 % 16 = k.val % 16 := by omega
    rw [hn, hl, e]
    generalize k.val % 16 = u
    generalize k.val / 128 = v
    omega
  have e2 : n.val % 2 = (chan k).val % 2 := by
    show _ = (k.val % 16 * 8 + k.val / 128) % 2
    omega
  have e3 : (⟨l.val / 16, by omega⟩ : Fin 8) = hcol k := Fin.ext (by
    show l.val / 16 = k.val % 128 / 16
    rw [hl])
  dsimp only []
  rw [hx, e2, e3]
  have e4 : (⟨4 * (l.val % 16) + n.val / 2, by omega⟩ : Fin 64) = ⟨(chan k).val / 2, by omega⟩ := Fin.ext e1
  rw [e4]

theorem word_eq (T : Vec Ideal S8x128x16 .i16) (y : Vec Ideal S8x16x128 .i16) (hy : ∀ n e l, y (ix3 n e l) = Host.table T (ix3 n e l))
    (v : Vec Ideal S64x4096x8x64 .i8) (x : Vec Ideal S1x8x64x512 .i8) (b : Fin 64) (p : Fin 4096) (j : Fin 512)
    (hx : ∀ h w, x (ix4 0 h w j) = v (ix4 b p h w)) (k : Fin 1024) (n : Fin 8) (l : Fin 128) (hn : n.val = k.val / 128) (hl : l.val = k.val % 128) :
    Tile.wordOf y x j n l = word (fun d e => T (ix3 (hcol k) d e)) (fun w => v (ix4 b p (hcol k) w)) (chan k) := by
  unfold Tile.wordOf word
  rw [hy, Host.table_apply]
  have hk := k.isLt
  have e1 : (⟨l.val / 16, by omega⟩ : Fin 8) = hcol k := Fin.ext (by
    show l.val / 16 = k.val % 128 / 16
    rw [hl])
  have e2 : (⟨l.val % 16 * 8 + n.val, by omega⟩ : Fin 128) = chan k := Fin.ext (by
    show l.val % 16 * 8 + n.val = k.val % 16 * 8 + k.val / 128
    omega)
  have e3 : (⟨(Tile.codeOf x n ⟨l.val / 16, by omega⟩ ⟨l.val % 16, by omega⟩ j).toNat % 16, by omega⟩ : Fin 16)
      = ⟨(code (fun w => v (ix4 b p (hcol k) w)) (chan k)).toNat % 16, by omega⟩ := Fin.ext (by
    show (Tile.codeOf x n ⟨l.val / 16, by omega⟩ ⟨l.val % 16, by omega⟩ j).toNat % 16 = _
    rw [code_eq v x b p j hx k n l hn hl])
  rw [e3, e1, e2]

theorem blk3_apply (h : Fin 8) (w : Fin 64) (j : Fin 512) : (iblk m hO c 3 t : Vec Ideal S1x8x64x512 .i8) (ix4 0 h w j)
    = (m ((c.tc : Thread nD τ).loc main_arg3) : Vec Ideal S64x4096x8x64 .i8) (ix4 (Blocks.bat t) (Blocks.pos m t j) h w) := by
  rw [Blocks.blk3, Host.v24_eq]
  exact Host.codes_apply _ _ _ _ _

theorem blk4_apply (h : Fin 8) (w : Fin 64) (j : Fin 512) : (iblk m hO c 4 t : Vec Ideal S1x8x64x512 .i8) (ix4 0 h w j)
    = (m ((c.tc : Thread nD τ).loc main_arg4) : Vec Ideal S64x4096x8x64 .i8) (ix4 (Blocks.bat t) (Blocks.pos m t j) h w) := by
  rw [Blocks.blk4, Host.v25_eq]
  exact Host.codes_apply _ _ _ _ _

theorem blk8_eq (n : Fin 8) (e : Fin 16) (l : Fin 128) : (iblk m hO c 8 t : Vec Ideal S8x16x128 .i16) (ix3 n e l)
    = Host.table (m ((c.tc : Thread nD τ).loc main_arg5)) (ix3 n e l) := by
  rw [Blocks.blk8, Host.v31_eq]

theorem blk9_eq (n : Fin 8) (e : Fin 16) (l : Fin 128) : (iblk m hO c 9 t : Vec Ideal S8x16x128 .i16) (ix3 n e l)
    = Host.table (m ((c.tc : Thread nD τ).loc main_arg6)) (ix3 n e l) := by
  rw [Blocks.blk9, Host.v34_eq]

/-- The tile's decoded values. -/
theorem vd_apply (j : Fin 512) (k : Fin 1024) :
    Outs.vd m hO c t (ix2 j k) = (args m c).val (Blocks.bat t) (Blocks.pos m t j) (hcol k) (chan k) := by
  unfold Outs.vd VD Args.val
  exact congrArg (Ideal.ofBits .bf16) (word_eq _ _ (blk9_eq m hO c t) _ _ _ _ _ (fun h w => blk4_apply m hO c t h w j) k _ _ rfl rfl)

/-- The tile's scales. -/
theorem vs_apply (q : Fin 4) (h : Fin 8) (j : Fin 128) :
    Outs.vs m hO c t q (ix3 0 h j) = (args m c).vs (Blocks.bat t) (Blocks.pos m t ⟨128 * q.val + j.val, by omega⟩) h := by
  refine (Blocks.blk5 m hO c t h ⟨128 * q.val + j.val, by omega⟩).trans ?_
  rw [Host.v26_eq]
  exact Host.scale_apply _ _ _ _

theorem blk6_apply (h : Fin 8) (o : Fin 4) (j : Fin 512) : (iblk m hO c 6 t : Vec Ideal S1x8x4x512 .i32) (ix4 0 h o j)
    = (args m c).oi (Blocks.bat t) (Blocks.pos m t j) h o := by
  rw [Blocks.blk6, Host.v27_eq]
  exact Host.idx_apply _ _ _ _ _

theorem blk7_apply (h : Fin 8) (o : Fin 4) (j : Fin 512) : (iblk m hO c 7 t : Vec Ideal S1x8x4x512 .i16) (ix4 0 h o j)
    = (args m c).ov (Blocks.bat t) (Blocks.pos m t j) h o := by
  rw [Blocks.blk7, Host.v28_eq]
  exact Host.val_apply _ _ _ _ _

/-- One outlier of the tile. -/
theorem put_eq (hf : (args m c).Fine) (h : Fin 8) (o : Fin 4) (j : Fin 512) (ch : ℕ) (hch : ch < 128) (old : BitVec 16) :
    Tile.put (Tile.outOf (iblk m hO c 6 t) (iblk m hO c 7 t) o h j) (BitVec.ofNat 16 ch) old
      = if (args m c).oi (Blocks.bat t) (Blocks.pos m t j) h o = BitVec.ofNat 32 ch then (args m c).ov (Blocks.bat t) (Blocks.pos m t j) h o else old := by
  unfold Tile.put Tile.outOf
  rw [blk6_apply m hO c t h o j, blk7_apply m hO c t h o j]
  obtain ⟨h1, h2⟩ := packed _ (hf.oi (Blocks.bat t) (Blocks.pos m t j) h o) ((args m c).ov (Blocks.bat t) (Blocks.pos m t j) h o) ch hch
  exact if_congr h1 h2 rfl

/-- The tile's decoded keys. -/
theorem kd_apply (hf : (args m c).Fine) (j : Fin 512) (k : Fin 1024) :
    KD (iblk m hO c 3 t) (iblk m hO c 6 t) (iblk m hO c 7 t) (iblk m hO c 8 t) (ix2 j k)
      = (args m c).key (Blocks.bat t) (Blocks.pos m t j) (hcol k) (chan k) := by
  have hk := k.isLt
  have e : k.val % 128 % 16 * 8 + k.val / 128 = (chan k).val := by
    show _ = k.val % 16 * 8 + k.val / 128
    omega
  have hw := word_eq _ _ (blk8_eq m hO c t) _ _ _ _ _ (fun h w => blk3_apply m hO c t h w j) k ⟨k.val / 128, by omega⟩ ⟨k.val % 128, by omega⟩ rfl rfl
  have hp := fun (o : Fin 4) old => put_eq m hO c t hf (hcol k) o j (chan k).val (chan k).isLt old
  unfold Args.key Args.keyWord
  rw [← hp, ← hp, ← hp, ← hp]
  unfold KD Tile.keyG
  dsimp only []
  refine congrArg (Ideal.ofBits .bf16) ?_
  show Tile.put (Tile.outOf _ _ 3 (hcol k) j) (BitVec.ofNat 16 (k.val % 128 % 16 * 8 + k.val / 128)) (Tile.put (Tile.outOf _ _ 2 (hcol k) j) (BitVec.ofNat 16 (k.val % 128 % 16 * 8 + k.val / 128))
    (Tile.put (Tile.outOf _ _ 1 (hcol k) j) (BitVec.ofNat 16 (k.val % 128 % 16 * 8 + k.val / 128)) (Tile.put (Tile.outOf _ _ 0 (hcol k) j) (BitVec.ofNat 16 (k.val % 128 % 16 * 8 + k.val / 128))
    (Tile.wordOf _ _ j ⟨k.val / 128, _⟩ ⟨k.val % 128, _⟩)))) = _
  rw [e, hw]
  rfl

/-! ### The tile's place -/

theorem active_iff : Outs.Active m hO c t ↔ (512 * (t.val % 8 : ℕ) : ℤ) < ((args m c).len (Blocks.bat t)).toInt := by
  unfold Outs.Active cond0_1
  rw [Blocks.coords1]
  exact Words.active_iff _ (by omega) _

theorem pos_active (h : Outs.Active m hO c t) (q : Fin 4) (j : Fin 128) :
    Blocks.pos m t ⟨128 * q.val + j.val, by omega⟩ = at_ (t.val % 8) q j := by
  apply Fin.ext
  show Tables.tile (tbl m) (grid0.coords t) * 512 + (128 * q.val + j.val) = (512 * (t.val % 8) + 128 * q.val + j.val) % 4096
  have e := (Blocks.tile_eq m hO c t).trans (Words.tile_active _ (by omega) _ ((active_iff m hO c t).mp h))
  rw [e]
  omega

/-- The scores of an active point's tile. -/
theorem sc_apply (hf : (args m c).Fine) (h : Outs.Active m hO c t) (q : Vec Ideal S128x1024 .bf16)
    (hq : ∀ r k, q (ix2 r k) = Q m c (Blocks.bat t) r k) (r : Fin 128) (u : Fin 4) (j : Fin 128) :
    Outs.sc m hO c t q (ix2 r (⟨128 * u.val + j.val, by omega⟩ : Fin 512)) = (args m c).scoreC (Blocks.bat t) r (at_ (t.val % 8) u j) := by
  unfold Outs.sc Args.scoreC
  rw [scores_apply, Blocks.coords1, Words.at_word, negInf]
  have e : 512 * (t.val % 8) + (128 * u.val + j.val) = (at_ (t.val % 8) u j).val := by
    show _ = (512 * (t.val % 8) + 128 * u.val + j.val) % 4096
    omega
  rw [e]
  refine if_congr Iff.rfl (congrArg (· * scale) ?_) rfl
  refine Eq.trans (Finset.sum_congr rfl fun k _ => congrArg₂ (· * ·) (hq r k) (kd_apply m hO c t hf _ k)) ?_
  refine dot_cols m c _ r (fun k => (args m c).key (Blocks.bat t) (Blocks.pos m t ⟨128 * u.val + j.val, by omega⟩) (hcol k) (chan k)) _ fun d => ?_
  rw [pos_active m hO c t h, head_col, chan_col]

/-- A point that is not active has only masked positions. -/
theorem masked (h : ¬Outs.Active m hO c t) (r : Fin 128) (u : Fin 4) (j : Fin 128) :
    (args m c).scoreC (Blocks.bat t) r (at_ (t.val % 8) u j) = ⊥ := by
  unfold Args.scoreC
  refine if_neg fun hs => h ((active_iff m hO c t).mpr ?_)
  have := (Words.slt_small (k := (at_ (t.val % 8) u j).val) (lt_trans (at_ (t.val % 8) u j).isLt (by decide)) _).mp hs
  have e : (at_ (t.val % 8) u j).val = 512 * (t.val % 8) + 128 * u.val + j.val := by
    show (512 * (t.val % 8) + 128 * u.val + j.val) % 4096 = _
    omega
  rw [e] at this
  push_cast at this ⊢
  omega

end Cert.KernelIdeal.Rows

end
-- ==== Proof.Batch.lean ====
/-
  The grid points of a batch, one after another: after each, the scratch holds the weights' and the weighted values' sums over the
  new tokens and the tiles so far, and after the last the output's buffer holds the attention.
-/
module

public import proofs.«01_k».proof.Proof.Rows

@[expose] public section

set_option maxRecDepth 16384

noncomputable section

namespace Cert.KernelIdeal.Batch

open Idealize.ShloMosaic Idealize.ShloMosaic.TcCoe Cert.KernelIdeal Cert.KernelIdeal.Gen Cert.KernelIdeal.Step Cert.Attn Cert.Softmax
open Cert.KernelIdeal.Rows

variable (m : (ℓ : Loc nD τ sig) → Buf (Elt Ideal) ℓ) (hO : Ok m) (c : Dev nD) (t : Fin (cfgM m hO).N)

/-- The sum of the weights over the new tokens and the first `T` tiles. -/
def EE (b : Fin 64) (T : ℕ) (r : Fin 128) : ℝ :=
  ∑ j, eps ((args m c).scoreN b r j) + upto (fun p => eps ((args m c).scoreC b r p)) T

/-- The weighted sum of the values over the same. -/
def AA (b : Fin 64) (T : ℕ) (q : Fin 16) (k : Fin 1024) : EReal :=
  ∑ j, (eps ((args m c).scoreN b (hrow (hcol k) q) j) : EReal) * (args m c).vn b j (hcol k) (chan k)
    + upto (fun p => ((eps ((args m c).scoreC b (hrow (hcol k) q) p) : EReal) * (args m c).vs b p (hcol k)) * (args m c).val b p (hcol k) (chan k)) T

theorem inv_congr {E E' : Fin 128 → ℝ} {A A' : Fin 16 → Fin 1024 → EReal} {acc : Vec Ideal S16x1024 .f32} {mm l : Vec Ideal S128x128 .f32}
    (hE : ∀ r, E r = E' r) (hA : ∀ q k, A q k = A' q k) (h : Inv E A acc mm l) : Inv E' A' acc mm l := by
  obtain rfl : E = E' := funext hE
  obtain rfl : A = A' := funext fun q => funext fun k => hA q k
  exact h

/-- Sixteen rows of which the last twelve give nothing. -/
theorem sum_pad {M : Type} [AddCommMonoid M] (f : Fin 4 → M) (g : Fin 16 → M) (h : ∀ j : Fin 16, g j = if h : j.val < 4 then f ⟨j.val, h⟩ else 0) :
    ∑ j, g j = ∑ j, f j := by
  refine (Fin.sum_univ_add (a := 4) (b := 12) g).trans ?_
  rw [Finset.sum_eq_zero (s := (Finset.univ : Finset (Fin 12))) fun j _ => ?_, add_zero]
  · refine Finset.sum_congr rfl fun j _ => ?_
    rw [h, dif_pos (show (Fin.castAdd 12 j).val < 4 from j.isLt)]
    rfl
  · rw [h, dif_neg (show ¬(Fin.natAdd 4 j).val < 4 from by simp)]

theorem init (hf : (args m c).Fine) :
    Inv (EE m c (Blocks.bat t) 0) (AA m c (Blocks.bat t) 0) (Outs.a0 m hO c t) (Outs.m0 m hO c t) (Outs.l0 m hO c t) := by
  refine inv_congr (fun r => ?_) (fun q k => ?_) (inv_init _ _ _ (iblk m hO c 2 t)
    (fun r j => if h : j.val < 4 then (args m c).scoreN (Blocks.bat t) r ⟨j.val, h⟩ else ⊥) (new_apply m hO c t) (fun r j => ?_) (fun r => ?_))
  · unfold EE
    rw [upto_zero, add_zero]
    refine sum_pad _ _ fun j => ?_
    split_ifs
    · rfl
    · exact eps_bot
  · unfold AA
    rw [upto_zero, add_zero]
    refine sum_pad _ _ fun j => ?_
    refine (congrArg (fun y : EReal => _ * y) (blk2_apply m hO c t j k)).trans ?_
    split_ifs
    · rfl
    · rw [mul_zero]
  · split_ifs
    · exact scoreN_ne_top hf _ _ _
    · exact bot_ne_top
  · rw [dif_pos (show (0 : Fin 16).val < 4 from by decide)]
    exact scoreN_zero hf _ _

theorem step_on (hf : (args m c).Fine) (h : Outs.Active m hO c t) (q : Vec Ideal S128x1024 .bf16)
    (hq : ∀ r k, q (ix2 r k) = Q m c (Blocks.bat t) r k) {acc : Vec Ideal S16x1024 .f32} {mm l : Vec Ideal S128x128 .f32}
    (hi : Inv (EE m c (Blocks.bat t) (t.val % 8)) (AA m c (Blocks.bat t) (t.val % 8)) acc mm l) :
    Inv (EE m c (Blocks.bat t) (t.val % 8 + 1)) (AA m c (Blocks.bat t) (t.val % 8 + 1))
      (stepAcc (Outs.sc m hO c t q) mm (stepM (Outs.sc m hO c t q) mm) (Outs.vs m hO c t) (Outs.vd m hO c t) acc)
      (stepM (Outs.sc m hO c t q) mm) (stepL (Outs.sc m hO c t q) mm (stepM (Outs.sc m hO c t q) mm) l) := by
  have hs := sc_apply m hO c t hf h q hq
  refine inv_congr (fun r => ?_) (fun q' k => ?_) (inv_step hi (Outs.sc m hO c t q) (Outs.vs m hO c t) (Outs.vd m hO c t)
    (fun r j => Outs.sc m hO c t q (ix2 r j)) (fun _ _ => rfl) (fun r j => ?_))
  · unfold EE
    rw [upto_succ, ← add_assoc]
    refine congrArg₂ (fun x y : ℝ => x + y) rfl (Finset.sum_congr rfl fun u _ => Finset.sum_congr rfl fun j _ => ?_)
    exact congrArg eps (hs r u j)
  · unfold AA
    rw [upto_succ, ← add_assoc]
    refine congrArg₂ (fun x y : EReal => x + y) rfl (Finset.sum_congr rfl fun u _ => Finset.sum_congr rfl fun j _ => ?_)
    refine congrArg₂ (fun x y : EReal => x * y) (congrArg₂ (fun x y : EReal => x * y) (congrArg (fun x => (eps x : EReal)) (hs _ u j)) ?_) ?_
    · exact (vs_apply m hO c t u (hcol k) j).trans (congrArg (fun p => (args m c).vs (Blocks.bat t) p (hcol k)) (pos_active m hO c t h u j))
    · exact (vd_apply m hO c t _ k).trans (congrArg (fun p => (args m c).val (Blocks.bat t) p (hcol k) (chan k)) (pos_active m hO c t h u j))
  · have e : j = (⟨128 * (j.val / 128) + j.val % 128, by omega⟩ : Fin 512) := Fin.ext (by simp only []; omega)
    have := hs r ⟨j.val / 128, by omega⟩ ⟨j.val % 128, by omega⟩
    rw [e]
    exact ne_of_eq_of_ne this (scoreC_ne_top hf _ _ _)

theorem EE_off (h : ¬Outs.Active m hO c t) (r : Fin 128) : EE m c (Blocks.bat t) (t.val % 8) r = EE m c (Blocks.bat t) (t.val % 8 + 1) r := by
  unfold EE
  rw [upto_succ, Finset.sum_eq_zero fun u _ => Finset.sum_eq_zero fun j _ => ?_, add_zero]
  rw [masked m hO c t h, eps_bot]

theorem AA_off (h : ¬Outs.Active m hO c t) (q : Fin 16) (k : Fin 1024) :
    AA m c (Blocks.bat t) (t.val % 8) q k = AA m c (Blocks.bat t) (t.val % 8 + 1) q k := by
  unfold AA
  rw [upto_succ, Finset.sum_eq_zero (s := (Finset.univ : Finset (Fin 4))) fun u _ => Finset.sum_eq_zero fun j _ => ?_, add_zero]
  rw [masked m hO c t h, eps_bot, EReal.coe_zero, zero_mul, zero_mul]

/-- What holds after a point. -/
def After : Prop :=
  (∀ r k, (Outs.St m hO c t).2.1 (ix2 r k) = Q m c (Blocks.bat t) r k)
    ∧ Inv (EE m c (Blocks.bat t) (t.val % 8 + 1)) (AA m c (Blocks.bat t) (t.val % 8 + 1))
      (Outs.St m hO c t).2.2.1 (Outs.St m hO c t).2.2.2.1 (Outs.St m hO c t).2.2.2.2

theorem after_start (hf : (args m c).Fine) (h0 : t.val % 8 = 0) : After m hO c t := by
  have hi := init m hO c t hf
  have hi' : Inv (EE m c (Blocks.bat t) (t.val % 8)) (AA m c (Blocks.bat t) (t.val % 8)) (Outs.a0 m hO c t) (Outs.m0 m hO c t) (Outs.l0 m hO c t) := by
    rw [h0]
    exact hi
  unfold After
  by_cases h1 : Outs.Active m hO c t
  · obtain ⟨hq, ha, hm, hl⟩ := Outs.start_on m hO c t h0 h1
    rw [hq, ha, hm, hl]
    exact ⟨q0_apply m hO c t, step_on m hO c t hf h1 _ (q0_apply m hO c t) hi'⟩
  · obtain ⟨hq, ha, hm, hl⟩ := Outs.start_off m hO c t h0 h1
    rw [hq, ha, hm, hl]
    exact ⟨q0_apply m hO c t, inv_congr (EE_off m hO c t h1) (AA_off m hO c t h1) hi'⟩

theorem after_next (hf : (args m c).Fine) (h0 : ¬t.val % 8 = 0)
    (hp : After m hO c ⟨t.val - 1, Nat.lt_of_le_of_lt (Nat.sub_le _ _) t.isLt⟩) : After m hO c t := by
  obtain ⟨pq, pi⟩ := hp
  have hb : Blocks.bat (⟨t.val - 1, Nat.lt_of_le_of_lt (Nat.sub_le _ _) t.isLt⟩ : Fin grid0.N) = Blocks.bat t := Fin.ext (by
    show (t.val - 1) / 8 = t.val / 8
    omega)
  have hT : (t.val - 1) % 8 + 1 = t.val % 8 := by omega
  have pq' : ∀ r k, (Outs.Pr m hO c t).2.1 (ix2 r k) = Q m c (Blocks.bat t) r k := fun r k => (pq r k).trans (by rw [hb])
  have pi' : Inv (EE m c (Blocks.bat t) (t.val % 8)) (AA m c (Blocks.bat t) (t.val % 8))
      (Outs.Pr m hO c t).2.2.1 (Outs.Pr m hO c t).2.2.2.1 (Outs.Pr m hO c t).2.2.2.2 :=
    inv_congr (fun r => by dsimp only []; rw [hb, hT]) (fun q k => by dsimp only []; rw [hb, hT]) pi
  unfold After
  by_cases h1 : Outs.Active m hO c t
  · obtain ⟨hq, ha, hm, hl⟩ := Outs.next_on m hO c t h0 h1
    rw [hq, ha, hm, hl]
    exact ⟨pq', step_on m hO c t hf h1 _ pq' pi'⟩
  · obtain ⟨hq, ha, hm, hl⟩ := Outs.next_off m hO c t h0 h1
    rw [hq, ha, hm, hl]
    exact ⟨pq', inv_congr (EE_off m hO c t h1) (AA_off m hO c t h1) pi'⟩

theorem after (hf : (args m c).Fine) : ∀ (n : ℕ) (hn : n < (cfgM m hO).N), After m hO c ⟨n, hn⟩
  | 0, hn => after_start m hO c ⟨0, hn⟩ hf rfl
  | n + 1, hn => by
    by_cases h0 : (n + 1) % 8 = 0
    · exact after_start m hO c ⟨n + 1, hn⟩ hf h0
    · exact after_next m hO c ⟨n + 1, hn⟩ hf h0 (after hf n (Nat.lt_of_succ_lt hn))

theorem head_hrow (h : Fin 8) (q : Fin 16) : head (hrow h q) = h := Fin.ext (by
  show (16 * h.val + q.val) / 16 = h.val
  omega)

/-- What the last point of a batch leaves in the output's buffer. -/
theorem result (hf : (args m c).Fine) (h2 : t.val % 8 = 7) (q : Fin 16) (k : Fin 1024) :
    (Outs.St m hO c t).1 (ix3 0 q k) = (args m c).out (Blocks.bat t) (hrow (hcol k) q) (chan k) := by
  obtain ⟨-, hi⟩ := after m hO c hf t.val t.isLt
  have hE : ∀ r, EE m c (Blocks.bat t) (t.val % 8 + 1) r = (args m c).E (Blocks.bat t) r := fun r => by
    rw [h2]
    unfold EE Args.E
    rw [upto_all]
  rw [Outs.last m hO c t h2]
  refine (inv_finish hi (fun r => ?_) q k).trans ?_
  · exact lt_of_lt_of_eq (E_pos hf (Blocks.bat t) r) (hE r).symm
  · refine congrArg₂ (fun x y : EReal => x * y) ?_ (congrArg (fun x : ℝ => ((1 / x : ℝ) : EReal)) (hE _))
    show AA m c (Blocks.bat t) (t.val % 8 + 1) q k = _
    rw [h2]
    unfold AA Args.num
    rw [upto_all, head_hrow]

end Cert.KernelIdeal.Batch

end
-- ==== Proof.Final.lean ====
/-
  The kernel's result: the attention of every batch, head, group and new token.
-/
module

public import proofs.«01_k».proof.Proof.Batch
public import proofs.«01_k».proof.Proof.TablesKernelIdeal
public import Idealize.ShloMosaic.Lib.Pipeline.ValueKit.Geometry

@[expose] public section

set_option maxRecDepth 16384

noncomputable section

namespace Cert.KernelIdeal.Final

open Idealize.ShloMosaic Idealize.ShloMosaic.TcCoe Idealize.ShloMosaic.StableHlo Cert.KernelIdeal Cert.KernelIdeal.Gen Cert.KernelIdeal.Step Cert.Attn
open Cert.KernelIdeal.Rows

variable (m : (ℓ : Loc nD τ sig) → Buf (Elt Ideal) ℓ) (hO : Ok m) (c : Dev nD)

/-- The array the grid writes, by batch, row of a head and column. -/
def rowsOf (a : Args) : Vec Ideal S64x16x1024 .bf16 := fun i =>
  a.out ⟨(i 0).val, (i 0).isLt⟩ (hrow (hcol ⟨(i 2).val, (i 2).isLt⟩) ⟨(i 1).val, (i 1).isLt⟩) (chan ⟨(i 2).val, (i 2).isLt⟩)

theorem emb11 (a : (pcfg0 (F := Ideal)).Adm) (t : Fin (cfg0 a).N) (q : Fin 16) (k : Fin 1024) :
    (((cfg0 a).win 11).blk t).view.emb (ix3 0 q k : S1x16x1024.Idx) = (ix3 (Blocks.bat t) q k : S64x16x1024.Idx) := by
  refine funext fun x => Fin.ext ?_
  match x with
  | ⟨0, _⟩ => show (BitVec.ofNat 32 (grid0.coords t 0).val).toNat * 1 + 1 * 0 = _; rw [Tables.batch, Blocks.coords0]; show _ = t.val / 8; omega
  | ⟨1, _⟩ => show 0 * 16 + 1 * q.val = q.val; omega
  | ⟨2, _⟩ => show 0 * 1024 + 1 * k.val = k.val; omega

theorem idx_eq (y : S1x16x1024.Idx) : ∃ (q : Fin 16) (k : Fin 1024), y = ix3 0 q k :=
  ⟨⟨(y 1).val, (y 1).isLt⟩, ⟨(y 2).val, (y 2).isLt⟩, funext fun x => match x with
    | ⟨0, _⟩ => Fin.ext (by have h : (y 0).val < 1 := (y 0).isLt; show (y 0).val = 0; omega)
    | ⟨1, _⟩ => rfl
    | ⟨2, _⟩ => rfl⟩

/-- Every place of the array is written at the last point of its batch. -/
theorem cover (i : S64x16x1024.Idx) : ∃ (t : Fin (cfgM m hO).N) (q : Fin 16) (k : Fin 1024), t.val % 8 = 7 ∧ i = (ix3 (Blocks.bat t) q k : S64x16x1024.Idx) := by
  have h0 : (i 0).val < 64 := (i 0).isLt
  have ht : (i 0).val * 8 + 7 < grid0.N := by rw [N_0]; omega
  refine ⟨⟨(i 0).val * 8 + 7, ht⟩, ⟨(i 1).val, (i 1).isLt⟩, ⟨(i 2).val, (i 2).isLt⟩, ?_, funext fun x => ?_⟩
  · show ((i 0).val * 8 + 7) % 8 = 7
    omega
  · match x with
    | ⟨0, _⟩ => exact Fin.ext (by show (i 0).val = ((i 0).val * 8 + 7) / 8; omega)
    | ⟨1, _⟩ => rfl
    | ⟨2, _⟩ => rfl

/-- The grid's array after its last point. -/
theorem final (hf : (args m c).Fine) : (dats m hO 0 c).arrAt 11 (cfgM m hO).N = rowsOf (args m c) := by
  refine (dats m hO 0 c).arrAt_eq_of_emb 11 (rowsOf (args m c)) (fun t hfl y => ?_) fun i => ?_
  · have h2 := (flush0_11 (adm m hO) t).mp hfl
    obtain ⟨q, k, hy⟩ := idx_eq y
    subst hy
    refine Eq.trans (b := (Outs.St m hO c t).1 (ix3 0 q k)) ?_ ?_
    · show (dats m hO 0 c).after 11 t _ = _
      rw [after0_11]
      rfl
    · refine (Batch.result m hO c t hf h2 q k).trans ?_
      exact (congrArg (rowsOf (args m c)) (emb11 (adm m hO) t q k)).symm
  · obtain ⟨t, q, k, h2, hi⟩ := cover m hO i
    refine ⟨t, (flush0_11 (adm m hO) t).mpr h2, ?_⟩
    have hm := View.emb_mem_set (((cfg0 (adm m hO)).win 11).blk t).view (ix3 0 q k : S1x16x1024.Idx)
    exact ((emb11 (adm m hO) t q k).trans hi.symm) ▸ hm

/-- The host's rearrangement of the grid's array into the result. -/
def tail (X : Vec Ideal S64x16x1024 .bf16) : Vec Ideal S64x4x4096 .bf16 :=
  shapeCast S64x4x4096 (transpose S64x4x8x4x16x8 [0, 2, 4, 1, 5, 3] (shapeCast S64x4x4x8x8x16 X shapeCasts_S64x16x1024_S64x4x4x8x8x16)
    transposes_S64x4x4x8x8x16_S64x4x8x4x16x8_0_2_4_1_5_3) shapeCasts_S64x4x8x4x16x8_S64x4x4096

theorem tail_apply (X : Vec Ideal S64x16x1024 .bf16) (b : Fin 64) (s : Fin 4) (k : Fin 4096) :
    tail X (ix3 b s k) = X (ix3 b (⟨k.val / 128 % 4 * 4 + s.val, by omega⟩ : Fin 16)
      (⟨k.val % 8 * 128 + k.val / 512 * 16 + k.val / 8 % 16, by omega⟩ : Fin 1024)) := by
  pointwise [tail]

/-- The result, by batch, new token and column. -/
def resultOf (a : Args) : Vec Ideal S64x4x4096 .bf16 := fun i =>
  a.out ⟨(i 0).val, (i 0).isLt⟩ ⟨(i 2).val / 128 * 4 + (i 1).val, by
    have h1 : (i 1).val < 4 := (i 1).isLt
    have h2 : (i 2).val < 4096 := (i 2).isLt
    omega⟩ ⟨(i 2).val % 128, Nat.mod_lt _ (by decide)⟩

theorem split3 (u v w : ℕ) (h2 : v < 8) (h3 : w < 16) :
    (u * 128 + v * 16 + w) % 128 / 16 = v ∧ (u * 128 + v * 16 + w) % 16 * 8 + (u * 128 + v * 16 + w) / 128 = w * 8 + u := by
  have e1 : (u * 128 + v * 16 + w) % 128 = v * 16 + w := by omega
  have e2 : (u * 128 + v * 16 + w) % 16 = w := by omega
  have e3 : (u * 128 + v * 16 + w) / 128 = u := by omega
  rw [e1, e2, e3]
  omega

theorem tail_rows (a : Args) : tail (rowsOf a) = resultOf a := by
  funext i
  obtain ⟨b, s, k, rfl⟩ : ∃ (b : Fin 64) (s : Fin 4) (k : Fin 4096), i = ix3 b s k :=
    ⟨⟨(i 0).val, (i 0).isLt⟩, ⟨(i 1).val, (i 1).isLt⟩, ⟨(i 2).val, (i 2).isLt⟩,
      funext fun x => match x with | ⟨0, _⟩ => rfl | ⟨1, _⟩ => rfl | ⟨2, _⟩ => rfl⟩
  rw [tail_apply]
  have hk := k.isLt
  have hs := s.isLt
  have h1 : k.val % 8 < 8 := Nat.mod_lt _ (by decide)
  have h2 : k.val / 512 < 8 := by omega
  have h3 : k.val / 8 % 16 < 16 := Nat.mod_lt _ (by decide)
  have e1 : hcol (⟨k.val % 8 * 128 + k.val / 512 * 16 + k.val / 8 % 16, by omega⟩ : Fin 1024) = ⟨k.val / 512, by omega⟩ :=
    Fin.ext (split3 _ _ _ h2 h3).1
  have e2 : chan (⟨k.val % 8 * 128 + k.val / 512 * 16 + k.val / 8 % 16, by omega⟩ : Fin 1024) = ⟨k.val % 128, by omega⟩ :=
    Fin.ext ((split3 _ _ _ h2 h3).2.trans (by show _ = k.val % 128; omega))
  show a.out b (hrow (hcol (⟨k.val % 8 * 128 + k.val / 512 * 16 + k.val / 8 % 16, by omega⟩ : Fin 1024)) ⟨k.val / 128 % 4 * 4 + s.val, by omega⟩)
    (chan (⟨k.val % 8 * 128 + k.val / 512 * 16 + k.val / 8 % 16, by omega⟩ : Fin 1024)) = a.out b ⟨k.val / 128 * 4 + s.val, by omega⟩ ⟨k.val % 128, by omega⟩
  rw [e1, e2]
  refine congrArg (fun r => a.out b r _) (Fin.ext ?_)
  show 16 * (k.val / 512) + (k.val / 128 % 4 * 4 + s.val) = k.val / 128 * 4 + s.val
  omega

theorem tail_value (hf : (args m c).Fine) :
    Pipeline.afterTail pcfgs (fun _ => adm m hO) (dats m hO) 0 (V0 m) [hostOps1] c main_v38 = resultOf (args m c) := by
  refine Eq.trans (b := tail ((dats m hO 0 c).arrAt 11 (cfgM m hO).N)) ?_ ?_
  · unfold Pipeline.afterTail
    simp only [hostOps1, List.flatten_cons, List.flatten_nil, List.append_nil, TRef.nullary, TRef.unary, TRef.binary, TRef.ternary, TRef.toBuf, TRef.ofBuf, cast_eq]
    after_results_simp
    have e := Pipeline.withArrays_arr (Pipeline.pin pcfgs (fun _ => adm m hO) 0).spec (by decide : Function.Injective (Pipeline.arrRef spec0)) c (V0 m c) (fun w => (dats m hO 0 c).arrAt w (cfgM m hO).N) 11
    exact congrArg tail e
  · rw [final m hO c hf, tail_rows]

/-- The run: the result at the attention of the arguments. -/
theorem run (ρ : Dev nD → PrngReg) (hf : ∀ c, (args m c).Fine) : θ_run defs (onTc (τ := τ) (main (F := Ideal))) ⟨m, fun _ => 0, ρ⟩ fun r =>
    ∀ c : Dev nD, r.2.mem ((c.tc : Thread nD τ).loc main_v38) = resultOf (args m c) :=
  (θ_run defs _ _).mono (fun _ h c => ((h c).2 main_v38 (by decide : main_v38 ∈ Pipeline.restRefs sig spec0)).trans
    (tail_value m (Tables.admissible _) c (hf c))) (run_main m ρ (Tables.admissible _))

end Cert.KernelIdeal.Final

end
-- ==== Proof.RefTerm.lean ====
/-
  The reference's result cut into named parts.
-/
module

public import proofs.«01_k».proof.Proof.Gen.ReferenceIdeal.Run
public import proofs.«01_k».proof.Proof.Softmax

@[expose] public section

set_option maxRecDepth 16384

noncomputable section

namespace Cert.ReferenceIdeal.Term

open Cert.ReferenceIdeal Cert.ReferenceIdeal.Gen Idealize.ShloMosaic Idealize.ShloMosaic.TcCoe Idealize.SL.Sem Idealize.ShloMosaic.StableHlo

/-- The code of every channel: the byte shifted down to the channel's four bits. -/
def codes (C : IVec S64x4096x8x64 8) : IVec S64x4096x8x128 32 :=
    shapeCast _ (andi (Host.shrsi (broadcastInDim S64x4096x8x64x2 ![0, 1, 2, 3, 4] bcast_S64x4096x8x64x1_S64x4096x8x64x2_0_1_2_3_4
    (broadcastInDim S64x4096x8x64x1 ![0, 1, 2, 3] bcast_S64x4096x8x64_S64x4096x8x64x1_0_1_2_3 (extui 32 C natLt_8_32))) (broadcastInDim
    S64x4096x8x64x2 ![0, 1, 2, 3, 4] bcast_S1x1x1x1x2_S64x4096x8x64x2_0_1_2_3_4 (broadcastInDim S1x1x1x1x2 ![4] bcast_S2_S1x1x1x1x2_4
    (muli (broadcastInDim S2 ![] bcast_S_S2 (constantI S_ 32 4#32)) (iotaInDim S2 32 0))))) (broadcastInDim S64x4096x8x64x2 ![]
    bcast_S_S64x4096x8x64x2 (constantI S_ 32 15#32))) shapeCasts_S64x4096x8x64x2_S64x4096x8x128

/-- The table word of every channel, picked by its code. -/
def lookup (C : IVec S64x4096x8x64 8) (T : IVec S8x128x16 16) : FVec Ideal S64x4096x8x128 .bf16 :=
    truncf .bf16 (Host.reduceAdd (extf .f32 (select (cmpi .eq (broadcastInDim S64x4096x8x128x16 ![0, 1, 2, 3, 4]
    bcast_S64x4096x8x128x1_S64x4096x8x128x16_0_1_2_3_4 (broadcastInDim S64x4096x8x128x1 ![0, 1, 2, 3]
    bcast_S64x4096x8x128_S64x4096x8x128x1_0_1_2_3 (codes C))) (broadcastInDim S64x4096x8x128x16 ![0, 1, 2, 3, 4]
    bcast_S1x1x1x1x16_S64x4096x8x128x16_0_1_2_3_4 (broadcastInDim S1x1x1x1x16 ![4] bcast_S16_S1x1x1x1x16_4 (iotaInDim S16 32 0))))
    (broadcastInDim S64x4096x8x128x16 ![2, 3, 4] bcast_S8x128x16_S64x4096x8x128x16_2_3_4 (bitcastToFloat .bf16 T)) (broadcastInDim
    S64x4096x8x128x16 ![] bcast_S_S64x4096x8x128x16 (sitofp .bf16 (constantI S_ 32 0#32)))) bitsLt_bf16_f32) (constant S_ .f32
    0x00000000#32) reducesTo_S64x4096x8x128x16_S64x4096x8x128_d4 h_S_) bitsLt_bf16_f32

/-- The keys with their outliers put in, the last outlier first. -/
def keys (OI : IVec S64x4096x8x4 32) (OV : IVec S64x4096x8x4 16) (K : FVec Ideal S64x4096x8x128 .bf16) : FVec Ideal S64x4096x8x128 .bf16 :=
    select (cmpi .eq (broadcastInDim S64x4096x8x128 ![0, 1, 2, 3] bcast_S64x4096x8x1_S64x4096x8x128_0_1_2_3 (broadcastInDim S64x4096x8x1
    ![0, 1, 2] bcast_S64x4096x8_S64x4096x8x1_0_1_2 (shapeCast _ (extractStridedSlice S64x4096x8x1 ![0, 0, 0, 3] OI
    slices_S64x4096x8x4_S64x4096x8x1_0_0_0_3) shapeCasts_S64x4096x8x1_S64x4096x8))) (broadcastInDim S64x4096x8x128 ![0, 1, 2, 3]
    bcast_S1x1x1x128_S64x4096x8x128_0_1_2_3 (broadcastInDim S1x1x1x128 ![3] bcast_S128_S1x1x1x128_3 (iotaInDim S128 32 0))))
    (broadcastInDim S64x4096x8x128 ![0, 1, 2, 3] bcast_S64x4096x8x1_S64x4096x8x128_0_1_2_3 (broadcastInDim S64x4096x8x1 ![0, 1, 2]
    bcast_S64x4096x8_S64x4096x8x1_0_1_2 (shapeCast _ (extractStridedSlice S64x4096x8x1 ![0, 0, 0, 3] (bitcastToFloat .bf16 OV)
    slices_S64x4096x8x4_S64x4096x8x1_0_0_0_3) shapeCasts_S64x4096x8x1_S64x4096x8))) (select (cmpi .eq (broadcastInDim S64x4096x8x128
    ![0, 1, 2, 3] bcast_S64x4096x8x1_S64x4096x8x128_0_1_2_3 (broadcastInDim S64x4096x8x1 ![0, 1, 2] bcast_S64x4096x8_S64x4096x8x1_0_1_2
    (shapeCast _ (extractStridedSlice S64x4096x8x1 ![0, 0, 0, 2] OI slices_S64x4096x8x4_S64x4096x8x1_0_0_0_2)
    shapeCasts_S64x4096x8x1_S64x4096x8))) (broadcastInDim S64x4096x8x128 ![0, 1, 2, 3] bcast_S1x1x1x128_S64x4096x8x128_0_1_2_3
    (broadcastInDim S1x1x1x128 ![3] bcast_S128_S1x1x1x128_3 (iotaInDim S128 32 0)))) (broadcastInDim S64x4096x8x128 ![0, 1, 2, 3]
    bcast_S64x4096x8x1_S64x4096x8x128_0_1_2_3 (broadcastInDim S64x4096x8x1 ![0, 1, 2] bcast_S64x4096x8_S64x4096x8x1_0_1_2 (shapeCast _
    (extractStridedSlice S64x4096x8x1 ![0, 0, 0, 2] (bitcastToFloat .bf16 OV) slices_S64x4096x8x4_S64x4096x8x1_0_0_0_2)
    shapeCasts_S64x4096x8x1_S64x4096x8))) (select (cmpi .eq (broadcastInDim S64x4096x8x128 ![0, 1, 2, 3]
    bcast_S64x4096x8x1_S64x4096x8x128_0_1_2_3 (broadcastInDim S64x4096x8x1 ![0, 1, 2] bcast_S64x4096x8_S64x4096x8x1_0_1_2 (shapeCast _
    (extractStridedSlice S64x4096x8x1 ![0, 0, 0, 1] OI slices_S64x4096x8x4_S64x4096x8x1_0_0_0_1) shapeCasts_S64x4096x8x1_S64x4096x8)))
    (broadcastInDim S64x4096x8x128 ![0, 1, 2, 3] bcast_S1x1x1x128_S64x4096x8x128_0_1_2_3 (broadcastInDim S1x1x1x128 ![3]
    bcast_S128_S1x1x1x128_3 (iotaInDim S128 32 0)))) (broadcastInDim S64x4096x8x128 ![0, 1, 2, 3]
    bcast_S64x4096x8x1_S64x4096x8x128_0_1_2_3 (broadcastInDim S64x4096x8x1 ![0, 1, 2] bcast_S64x4096x8_S64x4096x8x1_0_1_2 (shapeCast _
    (extractStridedSlice S64x4096x8x1 ![0, 0, 0, 1] (bitcastToFloat .bf16 OV) slices_S64x4096x8x4_S64x4096x8x1_0_0_0_1)
    shapeCasts_S64x4096x8x1_S64x4096x8))) (select (cmpi .eq (broadcastInDim S64x4096x8x128 ![0, 1, 2, 3]
    bcast_S64x4096x8x1_S64x4096x8x128_0_1_2_3 (broadcastInDim S64x4096x8x1 ![0, 1, 2] bcast_S64x4096x8_S64x4096x8x1_0_1_2 (shapeCast _
    (extractStridedSlice S64x4096x8x1 ![0, 0, 0, 0] OI slices_S64x4096x8x4_S64x4096x8x1_0_0_0_0) shapeCasts_S64x4096x8x1_S64x4096x8)))
    (broadcastInDim S64x4096x8x128 ![0, 1, 2, 3] bcast_S1x1x1x128_S64x4096x8x128_0_1_2_3 (broadcastInDim S1x1x1x128 ![3]
    bcast_S128_S1x1x1x128_3 (iotaInDim S128 32 0)))) (broadcastInDim S64x4096x8x128 ![0, 1, 2, 3]
    bcast_S64x4096x8x1_S64x4096x8x128_0_1_2_3 (broadcastInDim S64x4096x8x1 ![0, 1, 2] bcast_S64x4096x8_S64x4096x8x1_0_1_2 (shapeCast _
    (extractStridedSlice S64x4096x8x1 ![0, 0, 0, 0] (bitcastToFloat .bf16 OV) slices_S64x4096x8x4_S64x4096x8x1_0_0_0_0)
    shapeCasts_S64x4096x8x1_S64x4096x8))) K)))

/-- The scores of the cached positions. -/
def scoresC (X : FVec Ideal S64x4x4096 .bf16) (LEN : IVec S64 32) (K : FVec Ideal S64x4096x8x128 .bf16) : FVec Ideal S64x8x4x4x4096 .f32 :=
    select (broadcastInDim S64x8x4x4x4096 ![0, 1, 2, 3, 4] bcast_S64x1x1x1x4096_S64x8x4x4x4096_0_1_2_3_4 (broadcastInDim S64x1x1x1x4096
    ![0, 4] bcast_S64x4096_S64x1x1x1x4096_0_4 (cmpi .slt (broadcastInDim S64x4096 ![0, 1] bcast_S1x4096_S64x4096_0_1 (broadcastInDim
    S1x4096 ![1] bcast_S4096_S1x4096_1 (iotaInDim S4096 32 0))) (broadcastInDim S64x4096 ![0, 1] bcast_S64x1_S64x4096_0_1
    (broadcastInDim S64x1 ![0] bcast_S64_S64x1_0 LEN))))) (mulf (transpose S64x8x4x4x4096 [0, 1, 4, 3, 2] (Host.dotGeneral
    dot_S64x4096x8x128_S64x4x8x4x128_S64x8x4096x4x4_3_4_1_13_02_02 none K (shapeCast _ X shapeCasts_S64x4x4096_S64x4x8x4x128))
    transposes_S64x8x4096x4x4_S64x8x4x4x4096_0_1_4_3_2) (broadcastInDim S64x8x4x4x4096 ![] bcast_S_S64x8x4x4x4096 (constant S_ .f32
    0x3DB504F3#32))) (broadcastInDim S64x8x4x4x4096 ![] bcast_S_S64x8x4x4x4096 (id (constant S_ .f32 0xFF800000#32)))

/-- The scores of the new tokens. -/
def scoresN (X : FVec Ideal S64x4x4096 .bf16) (KN : FVec Ideal S64x4x8x128 .bf16) : FVec Ideal S64x8x4x4x4 .f32 :=
    select (broadcastInDim S64x8x4x4x4 ![3, 4] bcast_S4x4_S64x8x4x4x4_3_4 (cmpi .sge (broadcastInDim S4x4 ![0, 1] bcast_S4x1_S4x4_0_1
    (broadcastInDim S4x1 ![0] bcast_S4_S4x1_0 (iotaInDim S4 32 0))) (broadcastInDim S4x4 ![0, 1] bcast_S1x4_S4x4_0_1 (broadcastInDim
    S1x4 ![1] bcast_S4_S1x4_1 (iotaInDim S4 32 0))))) (mulf (transpose S64x8x4x4x4 [0, 1, 4, 3, 2] (Host.dotGeneral
    dot_S64x4x8x128_S64x4x8x4x128_S64x8x4x4x4_3_4_1_13_02_02 none KN (shapeCast _ X shapeCasts_S64x4x4096_S64x4x8x4x128))
    transposes_S64x8x4x4x4_S64x8x4x4x4_0_1_4_3_2) (broadcastInDim S64x8x4x4x4 ![] bcast_S_S64x8x4x4x4 (constant S_ .f32 0x3DB504F3#32)))
    (broadcastInDim S64x8x4x4x4 ![] bcast_S_S64x8x4x4x4 (id (constant S_ .f32 0xFF800000#32)))

/-- The scores side by side. -/
def joined (SC : FVec Ideal S64x8x4x4x4096 .f32) (SN : FVec Ideal S64x8x4x4x4 .f32) : FVec Ideal S64x8x4x4x4100 .f32 :=
  concatenate S64x8x4x4x4100 4 [⟨S64x8x4x4x4096, SC⟩, ⟨S64x8x4x4x4, SN⟩] concatenates_S64x8x4x4x4096_S64x8x4x4x4_S64x8x4x4x4100_d4

/-- The greatest score of each row. -/
def rowMax (J : FVec Ideal S64x8x4x4x4100 .f32) : FVec Ideal S64x8x4x4 .f32 :=
    maximumf (broadcastInDim S64x8x4x4 ![] bcast_S_S64x8x4x4 (constant S_ .f32 0xFF800000#32)) (Host.reduce FloatOps.maximumf J
    (constant S_ .f32 0xFF800000#32) reducesTo_S64x8x4x4x4100_S64x8x4x4_d4 h_S_)

/-- The exponentials of the scores less `M`. -/
def exps (J : FVec Ideal S64x8x4x4x4100 .f32) (M : FVec Ideal S64x8x4x4 .f32) : FVec Ideal S64x8x4x4x4100 .f32 :=
    Host.exp (subf J (broadcastInDim S64x8x4x4x4100 ![0, 1, 2, 3, 4] bcast_S64x8x4x4x1_S64x8x4x4x4100_0_1_2_3_4 (broadcastInDim
    S64x8x4x4x1 ![0, 1, 2, 3] bcast_S64x8x4x4_S64x8x4x4x1_0_1_2_3 M)))

/-- The sum of each row. -/
def total (E : FVec Ideal S64x8x4x4x4100 .f32) : FVec Ideal S64x8x4x4 .f32 :=
  Host.reduceAdd E (constant S_ .f32 0x00000000#32) reducesTo_S64x8x4x4x4100_S64x8x4x4_d4 h_S_

/-- The weights, the scores shifted by `M`. -/
def weights (J : FVec Ideal S64x8x4x4x4100 .f32) (M : FVec Ideal S64x8x4x4 .f32) : FVec Ideal S64x8x4x4x4100 .f32 :=
    Host.divf (exps J M) (broadcastInDim S64x8x4x4x4100 ![0, 1, 2, 3, 4] bcast_S64x8x4x4x1_S64x8x4x4x4100_0_1_2_3_4 (broadcastInDim
    S64x8x4x4x1 ![0, 1, 2, 3] bcast_S64x8x4x4_S64x8x4x4x1_0_1_2_3 (total (exps J M))))

/-- The weights: each row's scores through the softmax. -/
def probs (J : FVec Ideal S64x8x4x4x4100 .f32) : FVec Ideal S64x8x4x4x4100 .f32 :=
  weights J (rowMax J)

/-- The weighted sum of the cached values. -/
def outC (V : FVec Ideal S64x4096x8x128 .bf16) (VS : FVec Ideal S64x4096x8 .f32) (P : FVec Ideal S64x8x4x4x4100 .f32) : FVec Ideal
    S64x4x8x4x128 .f32 :=
    transpose S64x4x8x4x128 [0, 4, 1, 3, 2] (Host.dotGeneral dot_S64x4096x8x128_S64x8x4x4x4096_S64x8x128x4x4_1_4_3_23_02_01 none V
    (truncf .bf16 (mulf (extractStridedSlice S64x8x4x4x4096 ![0, 0, 0, 0, 0] P slices_S64x8x4x4x4100_S64x8x4x4x4096_0_0_0_0_0)
    (broadcastInDim S64x8x4x4x4096 ![0, 1, 2, 3, 4] bcast_S64x8x1x1x4096_S64x8x4x4x4096_0_1_2_3_4 (broadcastInDim S64x8x1x1x4096 ![0, 1,
    4] bcast_S64x8x4096_S64x8x1x1x4096_0_1_4 (transpose S64x8x4096 [0, 2, 1] VS transposes_S64x4096x8_S64x8x4096_0_2_1))))
    bitsLt_bf16_f32)) transposes_S64x8x128x4x4_S64x4x8x4x128_0_4_1_3_2

/-- The weighted sum of the new tokens' values. -/
def outN (VN : FVec Ideal S64x4x8x128 .bf16) (P : FVec Ideal S64x8x4x4x4100 .f32) : FVec Ideal S64x4x8x4x128 .f32 :=
    transpose S64x4x8x4x128 [0, 4, 1, 3, 2] (Host.dotGeneral dot_S64x4x8x128_S64x8x4x4x4_S64x8x128x4x4_1_4_3_23_02_01 none VN (truncf
    .bf16 (extractStridedSlice S64x8x4x4x4 ![0, 0, 0, 0, 4096] P slices_S64x8x4x4x4100_S64x8x4x4x4_0_0_0_0_4096) bitsLt_bf16_f32))
    transposes_S64x8x128x4x4_S64x4x8x4x128_0_4_1_3_2

/-- The result of weights `W`. -/
def merged (VN : FVec Ideal S64x4x8x128 .bf16) (V : FVec Ideal S64x4096x8x128 .bf16) (VS : FVec Ideal S64x4096x8 .f32) (W : FVec Ideal
    S64x8x4x4x4100 .f32) : FVec Ideal S64x4x4096 .bf16 :=
  truncf .bf16 (shapeCast _ (addf (outC V VS W) (outN VN W)) shapeCasts_S64x4x8x4x128_S64x4x4096) bitsLt_bf16_f32

/-- The result of the arguments. -/
def result (X : FVec Ideal S64x4x4096 .bf16) (KN VN : FVec Ideal S64x4x8x128 .bf16) (CK CV : IVec S64x4096x8x64 8) (KT VT : IVec
    S8x128x16 16) (VS : FVec Ideal S64x4096x8 .f32) (LEN : IVec S64 32) (OI : IVec S64x4096x8x4 32) (OV : IVec S64x4096x8x4 16) : FVec
    Ideal S64x4x4096 .bf16 :=
  merged VN (lookup CV VT) VS (probs (joined (scoresC X LEN (keys OI OV (lookup CK KT))) (scoresN X KN)))

/-- The reference's result term, cut into the parts above. -/
theorem res_eq (m : (ℓ : Loc nD τ sig) → Buf (Elt Ideal) ℓ) (c : Dev nD) :
      Value.res_main_v146 (F := Ideal) m c = result (m ((c.tc : Thread nD τ).loc main_arg0)) (m ((c.tc : Thread nD τ).loc main_arg1)) (m
    ((c.tc : Thread nD τ).loc main_arg2)) (m ((c.tc : Thread nD τ).loc main_arg3)) (m ((c.tc : Thread nD τ).loc main_arg4)) (m ((c.tc :
    Thread nD τ).loc main_arg5)) (m ((c.tc : Thread nD τ).loc main_arg6)) (m ((c.tc : Thread nD τ).loc main_arg7)) (m ((c.tc : Thread nD
    τ).loc main_arg8)) (m ((c.tc : Thread nD τ).loc main_arg9)) (m ((c.tc : Thread nD τ).loc main_arg10)) := rfl

end Cert.ReferenceIdeal.Term
-- ==== Proof.RefWeights.lean ====
/-
  The reference's weights and its result at an index.
-/
module

public import proofs.«01_k».proof.Proof.RefTerm
public import proofs.«01_k».proof.Proof.Attn
public import Idealize.ShloMosaic.Lib.Pointwise

@[expose] public section

set_option maxRecDepth 16384

noncomputable section

namespace Cert.ReferenceIdeal.Weights

open Idealize.ShloMosaic Cert.ReferenceIdeal Cert.ReferenceIdeal.Gen Cert.ReferenceIdeal.Term

theorem joined_left (SC : FVec Ideal S64x8x4x4x4096 .f32) (SN : FVec Ideal S64x8x4x4x4 .f32) (b : Fin 64) (h : Fin 8) (g s : Fin 4) (p : Fin 4096) :
    joined SC SN (ix5 b h g s (⟨p.val, by omega⟩ : Fin 4100)) = SC (ix5 b h g s p) := by
  pointwise [joined]

theorem joined_right (SC : FVec Ideal S64x8x4x4x4096 .f32) (SN : FVec Ideal S64x8x4x4x4 .f32) (b : Fin 64) (h : Fin 8) (g s : Fin 4) (j : Fin 4) :
    joined SC SN (ix5 b h g s (⟨4096 + j.val, by omega⟩ : Fin 4100)) = SN (ix5 b h g s j) := by
  pointwise [joined]

theorem exps_apply (J : FVec Ideal S64x8x4x4x4100 .f32) (M : FVec Ideal S64x8x4x4 .f32) (b : Fin 64) (h : Fin 8) (g s : Fin 4) (k : Fin 4100) :
    exps J M (ix5 b h g s k) = Ideal.exp (J (ix5 b h g s k) - M (ix4 b h g s)) := by
  pointwise [exps]

end Cert.ReferenceIdeal.Weights
-- ==== Proof.RefTotal.lean ====
/-
  The sum of a row.
-/
module

public import proofs.«01_k».proof.Proof.RefTerm
public import proofs.«01_k».proof.Proof.Attn
public import Idealize.ShloMosaic.Lib.Pointwise

@[expose] public section

set_option maxRecDepth 16384

noncomputable section

namespace Cert.ReferenceIdeal.Total

open Idealize.ShloMosaic Cert.ReferenceIdeal Cert.ReferenceIdeal.Gen Cert.ReferenceIdeal.Term

theorem total_apply (E : FVec Ideal S64x8x4x4x4100 .f32) (b : Fin 64) (h : Fin 8) (g s : Fin 4) :
    total E (ix4 b h g s) = ∑ k : Fin 4100, (E (ix5 b h g s k) : EReal) := by
  pointwise [total]

end Cert.ReferenceIdeal.Total
-- ==== Proof.RefMerged.lean ====
/-
  The merged result.
-/
module

public import proofs.«01_k».proof.Proof.RefTerm
public import proofs.«01_k».proof.Proof.Attn
public import Idealize.ShloMosaic.Lib.Pointwise

@[expose] public section

set_option maxRecDepth 16384

noncomputable section

namespace Cert.ReferenceIdeal.Merged

open Idealize.ShloMosaic Cert.ReferenceIdeal Cert.ReferenceIdeal.Gen Cert.ReferenceIdeal.Term

theorem weights_apply (J : FVec Ideal S64x8x4x4x4100 .f32) (M : FVec Ideal S64x8x4x4 .f32) (b : Fin 64) (h : Fin 8) (g s : Fin 4) (k : Fin 4100) :
    weights J M (ix5 b h g s k) = Ideal.div (exps J M (ix5 b h g s k)) (total (exps J M) (ix4 b h g s)) := by
  pointwise [weights]

theorem merged_apply (VN : FVec Ideal S64x4x8x128 .bf16) (V : FVec Ideal S64x4096x8x128 .bf16) (VS : FVec Ideal S64x4096x8 .f32) (W : FVec Ideal S64x8x4x4x4100 .f32) (b : Fin 64) (s : Fin 4) (k : Fin 4096) :
    merged VN V VS W (ix3 b s k) =
      ∑ x : Fin 4096, V (ix4 b x (⟨k.val / 512, by omega⟩ : Fin 8) (⟨k.val % 128, by omega⟩ : Fin 128)) *
        (W (ix5 b (⟨k.val / 512, by omega⟩ : Fin 8) (⟨k.val / 128 % 4, by omega⟩ : Fin 4) s (⟨x.val, by omega⟩ : Fin 4100)) * VS (ix3 b x (⟨k.val / 512, by omega⟩ : Fin 8)))
      + ∑ x : Fin 4, VN (ix4 b x (⟨k.val / 512, by omega⟩ : Fin 8) (⟨k.val % 128, by omega⟩ : Fin 128)) *
        W (ix5 b (⟨k.val / 512, by omega⟩ : Fin 8) (⟨k.val / 128 % 4, by omega⟩ : Fin 4) s (⟨4096 + x.val, by omega⟩ : Fin 4100)) := by
  pointwise [merged, outC, outN]

end Cert.ReferenceIdeal.Merged
-- ==== Proof.RefRowMax.lean ====
/-
  The greatest score of a row of the reference, which is a real.
-/
module

public import proofs.«01_k».proof.Proof.RefTerm
public import proofs.«01_k».proof.Proof.Attn
public import Idealize.ShloMosaic.Lib.Pointwise

@[expose] public section

set_option maxRecDepth 16384

noncomputable section

namespace Cert.ReferenceIdeal.RowMax

open Idealize.ShloMosaic Cert.ReferenceIdeal Cert.ReferenceIdeal.Gen Cert.ReferenceIdeal.Term

theorem reduce_real {s t u : Shape} {axes : List (Fin s.rank)} (x : FVec Ideal s .f32) (init : FVec Ideal u .f32) (h : s.ReducesTo axes t) (hu : 0 < u.numel) (j : t.Idx)
    (hi : init (Shape.Idx.first hu) = (⊥ : EReal)) (hx : ∀ i, x i ≠ (⊤ : EReal)) (i : s.Idx) (hd : h.drop i = j) (hb : x i ≠ (⊥ : EReal)) :
    ∃ M : ℝ, Host.reduce FloatOps.maximumf x init h hu j = (M : EReal) := by
  rw [Host.reduce_eq_fold, hi]
  exact Cert.Softmax.fold_real _ x hx i (Finset.mem_filter.mpr ⟨Finset.mem_univ _, hd⟩) hb

theorem max_reduce_real {s t u : Shape} {axes : List (Fin s.rank)} (N : FVec Ideal t .f32) (x : FVec Ideal s .f32) (init : FVec Ideal u .f32) (h : s.ReducesTo axes t) (hu : 0 < u.numel) (j : t.Idx)
    (hN : N j = (⊥ : EReal)) (hi : init (Shape.Idx.first hu) = (⊥ : EReal)) (hx : ∀ i, x i ≠ (⊤ : EReal)) (i : s.Idx) (hd : h.drop i = j) (hb : x i ≠ (⊥ : EReal)) :
    ∃ M : ℝ, maximumf N (Host.reduce FloatOps.maximumf x init h hu) j = (M : EReal) := by
  obtain ⟨M, hM⟩ := reduce_real x init h hu j hi hx i hd hb
  generalize Host.reduce FloatOps.maximumf x init h hu = R at hM
  refine ⟨M, ?_⟩
  refine Eq.trans (b := max (N j : EReal) (R j)) rfl ?_
  rw [hM, hN]
  exact max_eq_right bot_le

theorem drop_row (b : Fin 64) (h : Fin 8) (g s : Fin 4) (k : Fin 4100) :
    reducesTo_S64x8x4x4x4100_S64x8x4x4_d4.drop (ix5 b h g s k) = ix4 b h g s := by
  funext a
  refine Fin.ext ?_
  fin_cases a
  · exact Shape.ReducesTo.drop_apply_val_of_eq reducesTo_S64x8x4x4x4100_S64x8x4x4_d4 (ix5 b h g s k) 0 0
  · exact Shape.ReducesTo.drop_apply_val_of_eq reducesTo_S64x8x4x4x4100_S64x8x4x4_d4 (ix5 b h g s k) 1 1
  · exact Shape.ReducesTo.drop_apply_val_of_eq reducesTo_S64x8x4x4x4100_S64x8x4x4_d4 (ix5 b h g s k) 2 2
  · exact Shape.ReducesTo.drop_apply_val_of_eq reducesTo_S64x8x4x4x4100_S64x8x4x4_d4 (ix5 b h g s k) 3 3

theorem rowMax_real (J : FVec Ideal S64x8x4x4x4100 .f32) (hx : ∀ i, J i ≠ (⊤ : EReal)) (b : Fin 64) (h : Fin 8) (g s : Fin 4) (k : Fin 4100)
    (hb : J (ix5 b h g s k) ≠ (⊥ : EReal)) : ∃ M : ℝ, rowMax J (ix4 b h g s) = (M : EReal) := by
  unfold rowMax
  exact max_reduce_real _ J _ reducesTo_S64x8x4x4x4100_S64x8x4x4_d4 h_S_ (ix4 b h g s) Cert.Softmax.negInf Cert.Softmax.negInf hx (ix5 b h g s k) (drop_row b h g s k) hb

end Cert.ReferenceIdeal.RowMax
-- ==== Proof.RefProbs.lean ====
/-
  The reference's weights: each the score's exponential over the row's sum of them.
-/
module

public import proofs.«01_k».proof.Proof.RefWeights
public import proofs.«01_k».proof.Proof.RefTotal
public import proofs.«01_k».proof.Proof.RefMerged
public import proofs.«01_k».proof.Proof.RefRowMax
import Mathlib.Tactic.FieldSimp

@[expose] public section

set_option maxRecDepth 16384

noncomputable section

namespace Cert.ReferenceIdeal.Probs

open Idealize.ShloMosaic Cert.ReferenceIdeal Cert.ReferenceIdeal.Gen Cert.ReferenceIdeal.Term Cert.ReferenceIdeal.Weights Cert.ReferenceIdeal.Total
  Cert.ReferenceIdeal.Merged Cert.ReferenceIdeal.RowMax Cert.Softmax

/-- A weight of a row, the shift gone. -/
theorem probs_apply (J : FVec Ideal S64x8x4x4x4100 .f32) (hx : ∀ i, J i ≠ (⊤ : EReal)) (b : Fin 64) (h : Fin 8) (g s : Fin 4) (k₀ : Fin 4100)
    (hb : J (ix5 b h g s k₀) ≠ (⊥ : EReal)) (k : Fin 4100) :
    probs J (ix5 b h g s k) = ((eps (J (ix5 b h g s k)) * (1 / ∑ x : Fin 4100, eps (J (ix5 b h g s x))) : ℝ) : EReal) := by
  obtain ⟨M, hM⟩ := rowMax_real J hx b h g s k₀ hb
  have hpos : 0 < ∑ x : Fin 4100, eps (J (ix5 b h g s x)) :=
    lt_of_lt_of_le (eps_pos hb) (Finset.single_le_sum (f := fun x => eps (J (ix5 b h g s x))) (fun x _ => eps_nonneg _) (Finset.mem_univ k₀))
  have hexp := Real.exp_pos (-M)
  have hk : ∀ x : Fin 4100, exps J (rowMax J) (ix5 b h g s x) = ((Real.exp (-M) * eps (J (ix5 b h g s x)) : ℝ) : EReal) := fun x =>
    (exps_apply J (rowMax J) b h g s x).trans ((congrArg (fun u : EReal => Ideal.exp ((J (ix5 b h g s x) : EReal) - u)) hM).trans (exp_sub (hx _) M))
  have ht : total (exps J (rowMax J)) (ix4 b h g s) = ((Real.exp (-M) * ∑ x : Fin 4100, eps (J (ix5 b h g s x)) : ℝ) : EReal) :=
    (total_apply _ b h g s).trans ((Finset.sum_congr rfl fun x _ => hk x).trans ((coe_sum _ _).symm.trans (congrArg _ (Finset.mul_sum _ _ _).symm)))
  unfold probs
  refine (weights_apply J (rowMax J) b h g s k).trans ((congrArg₂ Ideal.div (hk k) ht).trans ?_)
  generalize (∑ x : Fin 4100, eps (J (ix5 b h g s x))) = S at hpos
  rw [Ideal.div_coe (ne_of_gt (mul_pos hexp hpos)), ← EReal.coe_mul]
  refine congrArg _ ?_
  have h1 := ne_of_gt hexp
  have h2 := ne_of_gt hpos
  field_simp

/-- A sum over the scores side by side is the sum over the cached ones and the sum over the new ones. -/
theorem sum_split (f : Fin 4100 → ℝ) : ∑ k, f k = ∑ p : Fin 4096, f ⟨p.val, by omega⟩ + ∑ j : Fin 4, f ⟨4096 + j.val, by omega⟩ :=
  Fin.sum_univ_add (a := 4096) (b := 4) f

variable (SC : FVec Ideal S64x8x4x4x4096 .f32) (SN : FVec Ideal S64x8x4x4x4 .f32)

theorem joined_ne_top (hC : ∀ b h g s p, SC (ix5 b h g s p) ≠ (⊤ : EReal)) (hN : ∀ b h g s j, SN (ix5 b h g s j) ≠ (⊤ : EReal)) (i : S64x8x4x4x4100.Idx) :
    joined SC SN i ≠ (⊤ : EReal) := by
  obtain ⟨b, h, g, s, k, rfl⟩ : ∃ (b : Fin 64) (h : Fin 8) (g s : Fin 4) (k : Fin 4100), i = ix5 b h g s k :=
    ⟨⟨(i 0).val, (i 0).isLt⟩, ⟨(i 1).val, (i 1).isLt⟩, ⟨(i 2).val, (i 2).isLt⟩, ⟨(i 3).val, (i 3).isLt⟩, ⟨(i 4).val, (i 4).isLt⟩,
      funext fun x => match x with | ⟨0, _⟩ => rfl | ⟨1, _⟩ => rfl | ⟨2, _⟩ => rfl | ⟨3, _⟩ => rfl | ⟨4, _⟩ => rfl⟩
  have hk := k.isLt
  by_cases h' : k.val < 4096
  · exact ne_of_eq_of_ne (joined_left SC SN b h g s ⟨k.val, h'⟩) (hC _ _ _ _ _)
  · have e : k = (⟨4096 + (⟨k.val - 4096, by omega⟩ : Fin 4).val, by show 4096 + (k.val - 4096) < 4100; omega⟩ : Fin 4100) :=
      Fin.ext (by show k.val = 4096 + (k.val - 4096); omega)
    rw [e]
    exact ne_of_eq_of_ne (joined_right SC SN b h g s ⟨k.val - 4096, by omega⟩) (hN _ _ _ _ _)

variable (hC : ∀ b h g s p, SC (ix5 b h g s p) ≠ (⊤ : EReal)) (hN : ∀ b h g s j, SN (ix5 b h g s j) ≠ (⊤ : EReal)) (b : Fin 64) (h : Fin 8) (g s : Fin 4)
  (h0 : SN (ix5 b h g s 0) ≠ (⊥ : EReal))

/-- The sum of a row's exponentials. -/
def rowSum : ℝ := ∑ p : Fin 4096, eps (SC (ix5 b h g s p)) + ∑ j : Fin 4, eps (SN (ix5 b h g s j))

theorem rowSum_eq : ∑ x : Fin 4100, eps (joined SC SN (ix5 b h g s x)) = rowSum SC SN b h g s :=
  (sum_split fun x => eps (joined SC SN (ix5 b h g s x))).trans
    (congrArg₂ (fun u v : ℝ => u + v) (Finset.sum_congr rfl fun p _ => congrArg eps (joined_left SC SN b h g s p))
      (Finset.sum_congr rfl fun j _ => congrArg eps (joined_right SC SN b h g s j)))

include hC hN h0

/-- A cached position's weight. -/
theorem probs_cached (p : Fin 4096) :
    probs (joined SC SN) (ix5 b h g s (⟨p.val, by omega⟩ : Fin 4100)) = ((eps (SC (ix5 b h g s p)) * (1 / rowSum SC SN b h g s) : ℝ) : EReal) := by
  refine (probs_apply _ (joined_ne_top SC SN hC hN) b h g s (⟨4096 + (0 : Fin 4).val, by decide⟩ : Fin 4100)
    (ne_of_eq_of_ne (joined_right SC SN b h g s 0) h0) _).trans ?_
  rw [rowSum_eq]
  exact congrArg (fun u : EReal => ((eps u * (1 / rowSum SC SN b h g s) : ℝ) : EReal)) (joined_left SC SN b h g s p)

/-- A new token's weight. -/
theorem probs_new (j : Fin 4) :
    probs (joined SC SN) (ix5 b h g s (⟨4096 + j.val, by omega⟩ : Fin 4100)) = ((eps (SN (ix5 b h g s j)) * (1 / rowSum SC SN b h g s) : ℝ) : EReal) := by
  refine (probs_apply _ (joined_ne_top SC SN hC hN) b h g s (⟨4096 + (0 : Fin 4).val, by decide⟩ : Fin 4100)
    (ne_of_eq_of_ne (joined_right SC SN b h g s 0) h0) _).trans ?_
  rw [rowSum_eq]
  exact congrArg (fun u : EReal => ((eps u * (1 / rowSum SC SN b h g s) : ℝ) : EReal)) (joined_right SC SN b h g s j)

end Cert.ReferenceIdeal.Probs
-- ==== Proof.RefDecode.lean ====
/-
  The reference's decoded keys and values at an index.
-/
module

public import proofs.«01_k».proof.Proof.RefTerm
public import proofs.«01_k».proof.Proof.Attn
public import Idealize.ShloMosaic.Lib.Pointwise

@[expose] public section

set_option maxRecDepth 16384

noncomputable section

namespace Cert.ReferenceIdeal.Decode

open Idealize.ShloMosaic Cert.ReferenceIdeal Cert.ReferenceIdeal.Gen Cert.ReferenceIdeal.Term

theorem select_eq {α : Type} (u v : BitVec 32) (x y : α) : Scalar.select (IntOp.cmpi .eq u v) x y = if u = v then x else y := by
  unfold Scalar.select IntOp.cmpi
  by_cases h : u = v
  · simp [h]
  · have hb : (u == v) = false := beq_false_of_ne h
    simp [hb, h]

theorem shifted (v : Fin 256) (n : Fin 2) :
    IntOp.andi (IntOp.shrsi .host (BitVec.setWidth 32 (BitVec.ofFin v : BitVec 8)) (IntOp.muli 4#32 (BitVec.ofNat 32 n.val))) 15#32
      = (BitVec.setWidth 32 (BitVec.ofFin v : BitVec 8) >>> (4 * n.val)) &&& 15#32 := by
  revert v n
  decide +kernel

theorem codes_apply (C : IVec S64x4096x8x64 8) (b : Fin 64) (p : Fin 4096) (h : Fin 8) (ch : Fin 128) :
    codes C (ix4 b p h ch) = Cert.Attn.code (fun w => C (ix4 b p h w)) ch := by
  pointwise [codes]
  exact shifted (C (ix4 b p h (⟨ch.val / 2, by omega⟩ : Fin 64))).toFin ⟨ch.val % 2, by omega⟩

theorem code_lt (v : Fin 64 → BitVec 8) (ch : Fin 128) : (Cert.Attn.code v ch).toNat < 16 := by
  unfold Cert.Attn.code
  rw [BitVec.toNat_and]
  exact lt_of_le_of_lt Nat.and_le_right (by decide)

theorem eq_code (w : BitVec 32) (hw : w.toNat < 16) (x : Fin 16) : w = BitVec.ofNat 32 x.val ↔ x = ⟨w.toNat % 16, by omega⟩ := by
  have hx := x.isLt
  constructor
  · intro h
    have := congrArg BitVec.toNat h
    rw [BitVec.toNat_ofNat] at this
    exact Fin.ext (by show x.val = w.toNat % 16; omega)
  · intro h
    have := congrArg Fin.val h
    refine BitVec.eq_of_toNat_eq ?_
    rw [BitVec.toNat_ofNat]
    have : x.val = w.toNat % 16 := this
    omega

theorem lookup_apply (C : IVec S64x4096x8x64 8) (T : IVec S8x128x16 16) (b : Fin 64) (p : Fin 4096) (h : Fin 8) (ch : Fin 128) :
    lookup C T (ix4 b p h ch) = Ideal.ofBits .bf16 (Cert.Attn.word (fun ch e => T (ix3 h ch e)) (fun w => C (ix4 b p h w)) ch) := by
  have hc := codes_apply C b p h ch
  have hl := code_lt (fun w => C (ix4 b p h w)) ch
  have h0 : (FloatOps.sitofp .bf16 0#32 : Ideal .bf16) = (0 : EReal) := by
    show (((0#32 : BitVec 32).toInt : ℝ) : EReal) = 0
    simp
  pointwise [lookup]
  rw [hc, h0]
  unfold Cert.Attn.word
  refine (Finset.sum_congr rfl fun x _ => (select_eq _ _ _ _).trans (if_congr (eq_code _ hl x) rfl rfl)).trans ?_
  rw [Finset.sum_ite_eq' Finset.univ]
  exact if_pos (Finset.mem_univ _)

theorem keys_apply (OI : IVec S64x4096x8x4 32) (OV : IVec S64x4096x8x4 16) (K : FVec Ideal S64x4096x8x128 .bf16) (b : Fin 64) (p : Fin 4096) (h : Fin 8) (ch : Fin 128) :
    keys OI OV K (ix4 b p h ch) =
      if OI (ix4 b p h 3) = BitVec.ofNat 32 ch.val then Ideal.ofBits .bf16 (OV (ix4 b p h 3))
      else if OI (ix4 b p h 2) = BitVec.ofNat 32 ch.val then Ideal.ofBits .bf16 (OV (ix4 b p h 2))
      else if OI (ix4 b p h 1) = BitVec.ofNat 32 ch.val then Ideal.ofBits .bf16 (OV (ix4 b p h 1))
      else if OI (ix4 b p h 0) = BitVec.ofNat 32 ch.val then Ideal.ofBits .bf16 (OV (ix4 b p h 0))
      else K (ix4 b p h ch) := by
  pointwise [keys]
  simp only [select_eq]

end Cert.ReferenceIdeal.Decode
-- ==== Proof.RefScores.lean ====
/-
  The reference's scores at an index.
-/
module

public import proofs.«01_k».proof.Proof.RefTerm
public import proofs.«01_k».proof.Proof.Attn
public import Idealize.ShloMosaic.Lib.Pointwise

@[expose] public section

set_option maxRecDepth 16384

noncomputable section

namespace Cert.ReferenceIdeal.Scores

open Idealize.ShloMosaic Cert.ReferenceIdeal Cert.ReferenceIdeal.Gen Cert.ReferenceIdeal.Term

theorem select_slt {α : Type} (u v : BitVec 32) (x y : α) : Scalar.select (IntOp.cmpi .slt u v) x y = if u.slt v then x else y := by
  unfold Scalar.select IntOp.cmpi
  cases h : u.slt v <;> simp [h]

theorem causal (s j : Fin 4) : IntOp.cmpi .sge (BitVec.ofNat 32 s.val) (BitVec.ofNat 32 j.val) = if j.val ≤ s.val then 1#1 else 0#1 := by
  revert s j
  decide +kernel

theorem masked : (id (constant S_ .f32 0xFF800000#32) : FVec Ideal S_ .f32) ix0 = (⊥ : EReal) := Cert.Softmax.negInf

theorem scoresC_apply (X : FVec Ideal S64x4x4096 .bf16) (LEN : IVec S64 32) (K : FVec Ideal S64x4096x8x128 .bf16) (b : Fin 64) (h : Fin 8) (g s : Fin 4) (p : Fin 4096) :
    scoresC X LEN K (ix5 b h g s p) = if (BitVec.ofNat 32 p.val).slt (LEN (ix1 b)) then
      (∑ d : Fin 128, X (ix3 b s (⟨h.val * 512 + g.val * 128 + d.val, by omega⟩ : Fin 4096)) * K (ix4 b p h d)) * Cert.Attn.scale else (⊥ : EReal) := by
  pointwise [scoresC]
  refine (select_slt _ _ _ _).trans ?_
  refine if_congr Iff.rfl ?_ masked
  exact congrArg (fun u : EReal => u * Cert.Attn.scale) (Finset.sum_congr rfl fun d _ => mul_comm (G := EReal) _ _)

theorem scoresN_apply (X : FVec Ideal S64x4x4096 .bf16) (KN : FVec Ideal S64x4x8x128 .bf16) (b : Fin 64) (h : Fin 8) (g s j : Fin 4) :
    scoresN X KN (ix5 b h g s j) = if j.val ≤ s.val then
      (∑ d : Fin 128, X (ix3 b s (⟨h.val * 512 + g.val * 128 + d.val, by omega⟩ : Fin 4096)) * KN (ix4 b j h d)) * Cert.Attn.scale else (⊥ : EReal) := by
  pointwise [scoresN]
  rw [causal]
  by_cases hj : j.val ≤ s.val
  · rw [if_pos hj, if_pos hj]
    refine (if_pos rfl).trans ?_
    exact congrArg (fun u : EReal => u * Cert.Attn.scale) (Finset.sum_congr rfl fun d _ => mul_comm (G := EReal) _ _)
  · rw [if_neg hj, if_neg hj]
    exact (if_neg (by decide)).trans masked

end Cert.ReferenceIdeal.Scores
-- ==== Proof.RefArgs.lean ====
/-
  The reference's keys, values and scores in terms of the attention's arguments.
-/
module

public import proofs.«01_k».proof.Proof.RefDecode
public import proofs.«01_k».proof.Proof.RefScores

@[expose] public section

set_option maxRecDepth 16384

noncomputable section

namespace Cert.ReferenceIdeal.RefArgs

open Idealize.ShloMosaic Cert.ReferenceIdeal Cert.ReferenceIdeal.Gen Cert.ReferenceIdeal.Term Cert.ReferenceIdeal.Decode Cert.ReferenceIdeal.Scores Cert.Attn

variable (X : FVec Ideal S64x4x4096 .bf16) (KN VN : FVec Ideal S64x4x8x128 .bf16) (CK CV : IVec S64x4096x8x64 8) (KT VT : IVec S8x128x16 16)
  (VS : FVec Ideal S64x4096x8 .f32) (LEN : IVec S64 32) (OI : IVec S64x4096x8x4 32) (OV : IVec S64x4096x8x4 16)

/-- The argument arrays by coordinates. -/
def arrays : Args where
  x b s k := X (ix3 b s k)
  kn b j h d := KN (ix4 b j h d)
  vn b j h d := VN (ix4 b j h d)
  ck b p h w := CK (ix4 b p h w)
  cv b p h w := CV (ix4 b p h w)
  kt h d e := KT (ix3 h d e)
  vt h d e := VT (ix3 h d e)
  vs b p h := VS (ix3 b p h)
  len b := LEN (ix1 b)
  oi b p h o := OI (ix4 b p h o)
  ov b p h o := OV (ix4 b p h o)

/-- The row of a head, a group and a new token. -/
def row (h : Fin 8) (g s : Fin 4) : Fin 128 := ⟨(h.val * 4 + g.val) * 4 + s.val, by omega⟩

theorem head_row (h : Fin 8) (g s : Fin 4) : head (row h g s) = h := Fin.ext (by show ((h.val * 4 + g.val) * 4 + s.val) / 16 = h.val; omega)
theorem step_row (h : Fin 8) (g s : Fin 4) : step (row h g s) = s := Fin.ext (by show ((h.val * 4 + g.val) * 4 + s.val) % 4 = s.val; omega)
theorem qcol_row (h : Fin 8) (g s : Fin 4) (d : Fin 128) : qcol (row h g s) d = ⟨h.val * 512 + g.val * 128 + d.val, by omega⟩ :=
  Fin.ext (by show ((h.val * 4 + g.val) * 4 + s.val) / 4 * 128 + d.val = h.val * 512 + g.val * 128 + d.val; omega)

theorem val_eq (b : Fin 64) (p : Fin 4096) (h : Fin 8) (ch : Fin 128) : lookup CV VT (ix4 b p h ch) = (arrays X KN VN CK CV KT VT VS LEN OI OV).val b p h ch :=
  lookup_apply CV VT b p h ch

theorem of_words (f : BitVec 16 → EReal) (p₃ p₂ p₁ p₀ : Prop) [Decidable p₃] [Decidable p₂] [Decidable p₁] [Decidable p₀] (v₃ v₂ v₁ v₀ w : BitVec 16) :
    (if p₃ then f v₃ else if p₂ then f v₂ else if p₁ then f v₁ else if p₀ then f v₀ else f w)
      = f (if p₃ then v₃ else if p₂ then v₂ else if p₁ then v₁ else if p₀ then v₀ else w) := by
  split_ifs <;> rfl

theorem key_eq (b : Fin 64) (p : Fin 4096) (h : Fin 8) (ch : Fin 128) :
    keys OI OV (lookup CK KT) (ix4 b p h ch) = (arrays X KN VN CK CV KT VT VS LEN OI OV).key b p h ch := by
  refine (keys_apply OI OV (lookup CK KT) b p h ch).trans ?_
  rw [lookup_apply CK KT b p h ch]
  unfold Args.key Args.keyWord
  exact of_words (Ideal.ofBits .bf16) _ _ _ _ _ _ _ _ _

theorem scoreC_eq (b : Fin 64) (h : Fin 8) (g s : Fin 4) (p : Fin 4096) :
    scoresC X LEN (keys OI OV (lookup CK KT)) (ix5 b h g s p) = (arrays X KN VN CK CV KT VT VS LEN OI OV).scoreC b (row h g s) p := by
  refine (scoresC_apply X LEN _ b h g s p).trans ?_
  unfold Args.scoreC Args.dot
  rw [head_row, step_row]
  refine if_congr Iff.rfl (congrArg (fun u : EReal => u * scale) (Finset.sum_congr rfl fun d _ => ?_)) rfl
  rw [qcol_row]
  exact congrArg (fun u : EReal => (X (ix3 b s (⟨h.val * 512 + g.val * 128 + d.val, by omega⟩ : Fin 4096)) : EReal) * u)
    (key_eq X KN VN CK CV KT VT VS LEN OI OV b p h d)

theorem scoreN_eq (b : Fin 64) (h : Fin 8) (g s j : Fin 4) :
    scoresN X KN (ix5 b h g s j) = (arrays X KN VN CK CV KT VT VS LEN OI OV).scoreN b (row h g s) j := by
  refine (scoresN_apply X KN b h g s j).trans ?_
  have hs : (row h g s).val % 4 = s.val := congrArg Fin.val (step_row h g s)
  unfold Args.scoreN Args.dot
  rw [head_row, step_row, hs]
  refine if_congr Iff.rfl (congrArg (fun u : EReal => u * scale) (Finset.sum_congr rfl fun d _ => ?_)) rfl
  rw [qcol_row]
  rfl

end Cert.ReferenceIdeal.RefArgs
-- ==== Proof.RefResult.lean ====
/-
  The reference's result at an index: the attention of its arguments.
-/
module

public import proofs.«01_k».proof.Proof.RefProbs
public import proofs.«01_k».proof.Proof.RefArgs

@[expose] public section

set_option maxRecDepth 16384

noncomputable section

namespace Cert.ReferenceIdeal.Result

open Idealize.ShloMosaic Cert.ReferenceIdeal Cert.ReferenceIdeal.Gen Cert.ReferenceIdeal.Term Cert.ReferenceIdeal.Merged Cert.ReferenceIdeal.Probs
  Cert.ReferenceIdeal.RefArgs Cert.Attn Cert.Softmax

/-- A value times its scaled weight, the division taken out. -/
theorem cached_term (e y : ℝ) (v w : EReal) : v * (((e * y : ℝ) : EReal) * w) = (((e : EReal) * w) * v) * (y : EReal) := by
  rw [EReal.coe_mul]
  simp only [mul_comm, mul_assoc, mul_left_comm]

/-- A new token's value times its weight, the division taken out. -/
theorem new_term (e y : ℝ) (v : EReal) : v * ((e * y : ℝ) : EReal) = ((e : EReal) * v) * (y : EReal) := by
  rw [EReal.coe_mul]
  simp only [mul_comm, mul_assoc, mul_left_comm]

variable (X : FVec Ideal S64x4x4096 .bf16) (KN VN : FVec Ideal S64x4x8x128 .bf16) (CK CV : IVec S64x4096x8x64 8) (KT VT : IVec S8x128x16 16)
  (VS : FVec Ideal S64x4096x8 .f32) (LEN : IVec S64 32) (OI : IVec S64x4096x8x4 32) (OV : IVec S64x4096x8x4 16)
  (hf : (arrays X KN VN CK CV KT VT VS LEN OI OV).Fine)

theorem rowSum_E (b : Fin 64) (h : Fin 8) (g s : Fin 4) :
    rowSum (scoresC X LEN (keys OI OV (lookup CK KT))) (scoresN X KN) b h g s = (arrays X KN VN CK CV KT VT VS LEN OI OV).E b (row h g s) := by
  unfold rowSum Args.E
  rw [add_comm]
  refine congrArg₂ (fun u v : ℝ => u + v) (Finset.sum_congr rfl fun j _ => congrArg eps ?_) (Finset.sum_congr rfl fun p _ => congrArg eps ?_)
  · exact scoreN_eq X KN VN CK CV KT VT VS LEN OI OV b h g s j
  · exact scoreC_eq X KN VN CK CV KT VT VS LEN OI OV b h g s p

include hf

theorem cached_ne_top (b : Fin 64) (h : Fin 8) (g s : Fin 4) (p : Fin 4096) : scoresC X LEN (keys OI OV (lookup CK KT)) (ix5 b h g s p) ≠ (⊤ : EReal) :=
  ne_of_eq_of_ne (scoreC_eq X KN VN CK CV KT VT VS LEN OI OV b h g s p) (scoreC_ne_top hf _ _ _)

theorem new_ne_top (b : Fin 64) (h : Fin 8) (g s j : Fin 4) : scoresN X KN (ix5 b h g s j) ≠ (⊤ : EReal) :=
  ne_of_eq_of_ne (scoreN_eq X KN VN CK CV KT VT VS LEN OI OV b h g s j) (scoreN_ne_top hf _ _ _)

theorem new_zero (b : Fin 64) (h : Fin 8) (g s : Fin 4) : scoresN X KN (ix5 b h g s 0) ≠ (⊥ : EReal) :=
  ne_of_eq_of_ne (scoreN_eq X KN VN CK CV KT VT VS LEN OI OV b h g s 0) (scoreN_zero hf _ _)

theorem weight_cached (b : Fin 64) (h : Fin 8) (g s : Fin 4) (p : Fin 4096) :
    probs (joined (scoresC X LEN (keys OI OV (lookup CK KT))) (scoresN X KN)) (ix5 b h g s (⟨p.val, by omega⟩ : Fin 4100))
      = ((eps ((arrays X KN VN CK CV KT VT VS LEN OI OV).scoreC b (row h g s) p) * (1 / (arrays X KN VN CK CV KT VT VS LEN OI OV).E b (row h g s)) : ℝ) : EReal) := by
  refine (probs_cached _ _ (cached_ne_top X KN VN CK CV KT VT VS LEN OI OV hf) (new_ne_top X KN VN CK CV KT VT VS LEN OI OV hf) b h g s
    (new_zero X KN VN CK CV KT VT VS LEN OI OV hf b h g s) p).trans ?_
  rw [rowSum_E X KN VN CK CV KT VT VS LEN OI OV]
  exact congrArg (fun u : EReal => ((eps u * (1 / (arrays X KN VN CK CV KT VT VS LEN OI OV).E b (row h g s)) : ℝ) : EReal)) (scoreC_eq X KN VN CK CV KT VT VS LEN OI OV b h g s p)

theorem weight_new (b : Fin 64) (h : Fin 8) (g s j : Fin 4) :
    probs (joined (scoresC X LEN (keys OI OV (lookup CK KT))) (scoresN X KN)) (ix5 b h g s (⟨4096 + j.val, by omega⟩ : Fin 4100))
      = ((eps ((arrays X KN VN CK CV KT VT VS LEN OI OV).scoreN b (row h g s) j) * (1 / (arrays X KN VN CK CV KT VT VS LEN OI OV).E b (row h g s)) : ℝ) : EReal) := by
  refine (probs_new _ _ (cached_ne_top X KN VN CK CV KT VT VS LEN OI OV hf) (new_ne_top X KN VN CK CV KT VT VS LEN OI OV hf) b h g s
    (new_zero X KN VN CK CV KT VT VS LEN OI OV hf b h g s) j).trans ?_
  rw [rowSum_E X KN VN CK CV KT VT VS LEN OI OV]
  exact congrArg (fun u : EReal => ((eps u * (1 / (arrays X KN VN CK CV KT VT VS LEN OI OV).E b (row h g s)) : ℝ) : EReal)) (scoreN_eq X KN VN CK CV KT VT VS LEN OI OV b h g s j)

theorem out_row (b : Fin 64) (h : Fin 8) (g s : Fin 4) (ch : Fin 128) :
    ∑ p : Fin 4096, lookup CV VT (ix4 b p h ch) *
        (probs (joined (scoresC X LEN (keys OI OV (lookup CK KT))) (scoresN X KN)) (ix5 b h g s (⟨p.val, by omega⟩ : Fin 4100)) * VS (ix3 b p h))
      + ∑ j : Fin 4, VN (ix4 b j h ch) *
        probs (joined (scoresC X LEN (keys OI OV (lookup CK KT))) (scoresN X KN)) (ix5 b h g s (⟨4096 + j.val, by omega⟩ : Fin 4100))
      = (arrays X KN VN CK CV KT VT VS LEN OI OV).out b (row h g s) ch := by
  have hE : 0 ≤ 1 / (arrays X KN VN CK CV KT VT VS LEN OI OV).E b (row h g s) := le_of_lt (one_div_pos.mpr (E_pos hf b (row h g s)))
  have hC : ∀ p : Fin 4096, (lookup CV VT (ix4 b p h ch) : EReal) *
        (probs (joined (scoresC X LEN (keys OI OV (lookup CK KT))) (scoresN X KN)) (ix5 b h g s (⟨p.val, by omega⟩ : Fin 4100)) * VS (ix3 b p h)) = _ := fun p =>
    (congrArg₂ (fun u v : EReal => u * (v * (VS (ix3 b p h) : EReal))) (val_eq X KN VN CK CV KT VT VS LEN OI OV b p h ch)
      (weight_cached X KN VN CK CV KT VT VS LEN OI OV hf b h g s p)).trans (cached_term _ _ _ _)
  have hN : ∀ j : Fin 4, (VN (ix4 b j h ch) : EReal) *
        probs (joined (scoresC X LEN (keys OI OV (lookup CK KT))) (scoresN X KN)) (ix5 b h g s (⟨4096 + j.val, by omega⟩ : Fin 4100)) = _ := fun j =>
    (congrArg (fun v : EReal => (VN (ix4 b j h ch) : EReal) * v) (weight_new X KN VN CK CV KT VT VS LEN OI OV hf b h g s j)).trans (new_term _ _ _)
  refine (congrArg₂ (fun u v : EReal => u + v) (Finset.sum_congr rfl fun p _ => hC p) (Finset.sum_congr rfl fun j _ => hN j)).trans ?_
  unfold Args.out Args.num
  rw [head_row]
  rw [mul_comm _ (((1 / (arrays X KN VN CK CV KT VT VS LEN OI OV).E b (row h g s) : ℝ)) : EReal), coe_mul_add _ hE, mul_comm _ (∑ j, _), mul_comm _ (∑ p, _),
    sum_mul_coe _ _ hE, sum_mul_coe _ _ hE]
  exact add_comm _ _

theorem result_apply (b : Fin 64) (s : Fin 4) (k : Fin 4096) :
    result X KN VN CK CV KT VT VS LEN OI OV (ix3 b s k)
      = (arrays X KN VN CK CV KT VT VS LEN OI OV).out b ⟨k.val / 128 * 4 + s.val, by omega⟩ ⟨k.val % 128, by omega⟩ := by
  unfold result
  refine (merged_apply VN _ VS _ b s k).trans ((out_row X KN VN CK CV KT VT VS LEN OI OV hf b ⟨k.val / 512, by omega⟩ ⟨k.val / 128 % 4, by omega⟩ s ⟨k.val % 128, by omega⟩).trans ?_)
  refine congrArg (fun r => (arrays X KN VN CK CV KT VT VS LEN OI OV).out b r ⟨k.val % 128, by omega⟩) (Fin.ext ?_)
  show (k.val / 512 * 4 + k.val / 128 % 4) * 4 + s.val = k.val / 128 * 4 + s.val
  omega

end Cert.ReferenceIdeal.Result
-- ==== Proof.Pre.lean ====
/-
  What the precondition says of the arguments, element by element.
-/
module

public import proofs.«01_k».proof.Pre_finite_keys
public import proofs.«01_k».proof.Proof.RefArgs

@[expose] public section

set_option maxRecDepth 16384

noncomputable section

namespace Cert.Pre_finite_keys

open Idealize.ShloMosaic

theorem facts : Cert.Pre_finite_keys.Facts := by
  refine ⟨?_, ?_, ?_, ?_⟩ <;> decide

namespace Read

open Cert.Attn Cert.ReferenceIdeal.RefArgs

/-- A value whose magnitude is below the infinity is a real. -/
theorem real_of_lt (x : Ideal .bf16) (h : BitVec.ofBool (decide ((FloatOps.absf x : EReal) < Ideal.ofBits .bf16 0x7F80#16)) = 1#1) : ∃ y : ℝ, (x : EReal) = (y : EReal) := by
  have ht : Ideal.ofBits .bf16 0x7F80#16 = (⊤ : EReal) := by simp [Ideal.ofBits, Ideal.ieee]
  rw [ht] at h
  have h' : (FloatOps.absf x : EReal) < ⊤ := by
    by_contra hc
    rw [decide_eq_false hc] at h
    exact absurd h (by decide)
  have ha : (FloatOps.absf x : EReal) = max (x : EReal) (-(x : EReal)) := rfl
  rw [ha, max_lt_iff] at h'
  refine Cert.Softmax.real_of (fun e => ?_) (ne_of_lt h'.1)
  have := h'.2
  rw [e] at this
  exact absurd this (by simp)

/-- A word at least zero and below 65536 as a signed number is so as an unsigned one. -/
theorem small (v : BitVec 32) (h : IntOp.andi (IntOp.cmpi .sge v 0#32) (IntOp.cmpi .slt v 65536#32) = 1#1) : v.toNat < 65536 := by
  obtain ⟨h0, h1⟩ := IntOp.andi_eq_one.mp h
  have h0' : (0#32 : BitVec 32).sle v = true := by
    unfold IntOp.cmpi at h0
    cases hc : (0#32 : BitVec 32).sle v
    · simp [hc] at h0
    · rfl
  have h1' : v.slt 65536#32 = true := by
    unfold IntOp.cmpi at h1
    cases hc : v.slt 65536#32
    · simp [hc] at h1
    · rfl
  rw [BitVec.sle_eq_decide, decide_eq_true_iff] at h0'
  rw [BitVec.slt_eq_decide, decide_eq_true_iff] at h1'
  have e0 : (0#32 : BitVec 32).toInt = 0 := rfl
  have e1 : (65536#32 : BitVec 32).toInt = 65536 := rfl
  rw [e0] at h0'
  rw [e1] at h1'
  have := BitVec.toInt_eq_toNat_cond v
  have hv := v.isLt
  split at this <;> omega

variable [Facts]

/-- The precondition makes the arguments finite and the outlier channels short. -/
theorem fine (X : FVec Ideal S64x4x4096 .bf16) (KN VN : FVec Ideal S64x4x8x128 .bf16) (CK CV : IVec S64x4096x8x64 8) (KT VT : IVec S8x128x16 16)
    (VS : FVec Ideal S64x4096x8 .f32) (LEN : IVec S64 32) (OI : IVec S64x4096x8x4 32) (OV : IVec S64x4096x8x4 16)
    (h : (fn (F := Ideal) X KN VN CK CV KT VT VS LEN OI OV).1 = (fun _ => 1#1) ∧ (fn (F := Ideal) X KN VN CK CV KT VT VS LEN OI OV).2.1 = (fun _ => 1#1)
      ∧ (fn (F := Ideal) X KN VN CK CV KT VT VS LEN OI OV).2.2.1 = (fun _ => 1#1) ∧ (fn (F := Ideal) X KN VN CK CV KT VT VS LEN OI OV).2.2.2.1 = (fun _ => 1#1)
      ∧ (fn (F := Ideal) X KN VN CK CV KT VT VS LEN OI OV).2.2.2.2 = (fun _ => 1#1)) :
    (arrays X KN VN CK CV KT VT VS LEN OI OV).Fine := by
  simp only [fn, fn_part1] at h
  obtain ⟨h1, h2, h3, h4, h5⟩ := h
  refine ⟨fun b s k => ?_, fun b j h d => ?_, fun h d e => ?_, fun b p h o => ?_, fun b p h o => ?_⟩
  · have := congrFun h1 (ix3 b s k)
    pointwise at this
    exact real_of_lt _ this
  · have := congrFun h2 (ix4 b j h d)
    pointwise at this
    exact real_of_lt _ this
  · have := congrFun h3 (ix3 h d e)
    pointwise at this
    exact real_of_lt _ this
  · have := congrFun h4 (ix4 b p h o)
    pointwise at this
    exact real_of_lt _ this
  · have := congrFun h5 (ix4 b p h o)
    pointwise at this
    exact small _ this

end Read

end Cert.Pre_finite_keys
-- ==== Proof.lean ====
/-
  The proof of `Cert.Claim` (proof/Defs.lean). The kernel's frames are the generated ones, once any lengths at all are shown to name
  blocks that lie inside the arrays (Proof/TablesKernel.lean, Proof/TablesKernelIdeal.lean); the reference's frame is its run read at
  its arguments. The values meet at one attention written over the arguments (Proof/Attn.lean): the kernel's run ends at it
  (Proof/Final.lean), and so does the reference's (Proof/RefResult.lean), the arguments being as the precondition has them (Proof/Pre.lean).
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.TablesKernel
public import proofs.«01_k».proof.Proof.TablesKernelIdeal
public import proofs.«01_k».proof.Proof.Final
public import proofs.«01_k».proof.Proof.RefResult
public import proofs.«01_k».proof.Proof.Pre
public import Idealize.ShloMosaic.Lib.Claim
public import Idealize.ShloMosaic.Adequacy
public import Idealize.ShloMosaic.Init

@[expose] public section

noncomputable section

namespace Cert.Proof

open Idealize.ShloMosaic Idealize.SL.Sem

/-- The kernel as printed ends, with its arguments unchanged and every semaphore at zero. -/
theorem frame_kernel : Cert.quiescent_Kernel := fun m g _ =>
  Cert.Kernel.Gen.frame m g (Cert.Kernel.Tables.admissible _)

/-- So does the kernel over the extended reals. -/
theorem frame_ideal : Cert.quiescent_KernelIdeal := fun m g _ =>
  Cert.KernelIdeal.Gen.frame m g (Cert.KernelIdeal.Tables.admissible _)

/-- So does the reference over the extended reals. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The kernel's arguments are finite where the precondition says so. -/
theorem fine (m : (ℓ : Loc Cert.KernelIdeal.nD Cert.KernelIdeal.τ Cert.KernelIdeal.sig) → Buf (Elt Ideal) ℓ)
    (h : Cert.Pre_KernelIdeal_finite_keys (hPre_finite_keys := Cert.Pre_finite_keys.facts) m) (c : Dev Cert.KernelIdeal.nD) : (Cert.KernelIdeal.Rows.args m c).Fine :=
  @Cert.Pre_finite_keys.Read.fine Cert.Pre_finite_keys.facts _ _ _ _ _ _ _ _ _ _ _ (h c)

/-- The reference's result, at the attention of its arguments. -/
theorem reference_value (X : FVec Ideal Cert.ReferenceIdeal.S64x4x4096 .bf16) (KN VN : FVec Ideal Cert.ReferenceIdeal.S64x4x8x128 .bf16)
    (CK CV : IVec Cert.ReferenceIdeal.S64x4096x8x64 8) (KT VT : IVec Cert.ReferenceIdeal.S8x128x16 16) (VS : FVec Ideal Cert.ReferenceIdeal.S64x4096x8 .f32)
    (LEN : IVec Cert.ReferenceIdeal.S64 32) (OI : IVec Cert.ReferenceIdeal.S64x4096x8x4 32) (OV : IVec Cert.ReferenceIdeal.S64x4096x8x4 16)
    (hf : (Cert.ReferenceIdeal.RefArgs.arrays X KN VN CK CV KT VT VS LEN OI OV).Fine) :
    Cert.ReferenceIdeal.Term.result X KN VN CK CV KT VT VS LEN OI OV = Cert.KernelIdeal.Final.resultOf (Cert.ReferenceIdeal.RefArgs.arrays X KN VN CK CV KT VT VS LEN OI OV) := by
  funext i
  obtain ⟨b, s, k, rfl⟩ : ∃ (b : Fin 64) (s : Fin 4) (k : Fin 4096), i = ix3 b s k :=
    ⟨⟨(i 0).val, (i 0).isLt⟩, ⟨(i 1).val, (i 1).isLt⟩, ⟨(i 2).val, (i 2).isLt⟩,
      funext fun x => match x with | ⟨0, _⟩ => rfl | ⟨1, _⟩ => rfl | ⟨2, _⟩ => rfl⟩
  exact Cert.ReferenceIdeal.Result.result_apply X KN VN CK CV KT VT VS LEN OI OV hf b s k

/-- From equal arguments, as the precondition has them, the two results are equal. -/
theorem algebraic : Cert.algebraic_KernelIdeal_ReferenceIdeal_pre_finite_keys (hKernelIdeal := Cert.KernelIdeal.Gen.facts)
    (hReferenceIdeal := Cert.ReferenceIdeal.Gen.facts) (hPre_finite_keys := Cert.Pre_finite_keys.facts) := by
  intro m g m' g' hpre hargs
  have hf := fine m hpre
  refine ⟨fun c => Cert.KernelIdeal.Final.resultOf (Cert.KernelIdeal.Rows.args m c), ?_, ?_⟩
  · exact (θ_run (Cert.KernelIdeal.defs (F := Ideal)) _ _).mono (fun r h c => ⟨h.1 c, h.2 c⟩)
      (θ_run_and (Cert.KernelIdeal.Final.run m g hf) (Cert.KernelIdeal.Gen.unchanged m g (Cert.KernelIdeal.Tables.admissible _)))
  · refine (θ_run (Cert.ReferenceIdeal.defs (F := Ideal)) _ _).mono (fun r h c => ⟨(h c).1.trans ?_, (h c).2⟩) (Cert.ReferenceIdeal.Value.run (F := Ideal) m' g')
    obtain ⟨h0, h1, h2, h3, h4, h5, h6, h7, h8, h9, h10⟩ := hargs c
    refine (Cert.ReferenceIdeal.Term.res_eq m' c).trans ?_
    rw [h0, h1, h2, h3, h4, h5, h6, h7, h8, h9, h10]
    exact reference_value _ _ _ _ _ _ _ _ _ _ _ (hf c)

theorem claim : Cert.Claim := ⟨Cert.Kernel.Gen.facts, Cert.KernelIdeal.Gen.facts, Cert.ReferenceIdeal.Gen.facts, Cert.Pre_finite_keys.facts,
  frame_kernel, frame_ideal, fun m g _ => frame_ideal m g trivial, frame_reference, fun m g _ => frame_reference m g trivial, trivial, algebraic⟩

end Cert.Proof

end
